-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 256]⟩ ⟨2, ![8192, 8192]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = Layout.block ⟨2, ![256, 4096]⟩ ⟨2, ![8192, 4096]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x256 : Shape := ⟨2, ![8192, 256]⟩
abbrev S8192x4096 : Shape := ⟨2, ![8192, 4096]⟩
abbrev S32x32 : Shape := ⟨2, ![32, 32]⟩
abbrev S_ : Shape := ⟨0, ![]⟩
abbrev S1 : Shape := ⟨1, ![1]⟩
abbrev S32 : Shape := ⟨1, ![32]⟩
abbrev S256x4096 : Shape := ⟨2, ![256, 4096]⟩
abbrev S32x256x256 : Shape := ⟨3, ![32, 256, 256]⟩
abbrev S4x256x4096 : Shape := ⟨3, ![4, 256, 4096]⟩
abbrev S4 : Shape := ⟨1, ![4]⟩
abbrev S1x256x4096 : Shape := ⟨3, ![1, 256, 4096]⟩
abbrev S256x256 : Shape := ⟨2, ![256, 256]⟩
abbrev S1x256x256 : Shape := ⟨3, ![1, 256, 256]⟩

abbrev nBuf : Space → Nat
  | .hbm => 29
  | .vmem => 5
  | .smem => 1
  | _ => 0

abbrev bufTy : (tb : Table) → Fin (tcTables nBuf tb) → BufTy
  | .hbm, ⟨0, _⟩ => ⟨S8192x256, .f32⟩
  | .hbm, ⟨1, _⟩ => ⟨S8192x4096, .f32⟩
  | .hbm, ⟨2, _⟩ => ⟨S32x32, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S1, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S1, .i1⟩
  | .hbm, ⟨19, _⟩ => ⟨S1, .i1⟩
  | .hbm, ⟨20, _⟩ => ⟨S1, .i1⟩
  | .hbm, ⟨21, _⟩ => ⟨S_, .i1⟩
  | .hbm, ⟨22, _⟩ => ⟨S_, .i1⟩
  | .hbm, ⟨23, _⟩ => ⟨S32, .i32⟩
  | .hbm, ⟨24, _⟩ => ⟨S32, .i1⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S256x4096, .f32⟩
  | .local _ .vmem, ⟨0, _⟩ => ⟨S8192x256, .f32⟩
  | .local _ .vmem, ⟨1, _⟩ => ⟨S256x4096, .f32⟩
  | .local _ .vmem, ⟨2, _⟩ => ⟨S8192x256, .bf16⟩
  | .local _ .vmem, ⟨3, _⟩ => ⟨S32x256x256, .bf16⟩
  | .local _ .vmem, ⟨4, _⟩ => ⟨S4x256x4096, .f32⟩
  | .local _ .smem, ⟨0, _⟩ => ⟨S32, .i32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 1 → Bool
  | ⟨0, _⟩ => false
  | _ => false

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  (ofTc nBuf bufTy 1 71 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_c_0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_c_1 : Ref sig .tc := ⟨.hbm, 15, rfl⟩
abbrev main_call0_c_2 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_c_3 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_c_4 : Ref sig .tc := ⟨.hbm, 25, rfl⟩
abbrev main_call0_v11 : Ref sig .tc := ⟨.hbm, 26, rfl⟩
abbrev main_v5 : Ref sig .tc := ⟨.hbm, 27, rfl⟩
abbrev main_v6 : Ref sig .tc := ⟨.hbm, 28, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

@[reducible] def k0_t1_loop : Scf.Loop 32 :=
  let c1_i32_0 : BitVec 32 := 1#32
  let c31_i32 : BitVec 32 := 31#32
  let v4 : BitVec 32 := Scalar.addi c1_i32_0 c31_i32
  let c1_i32_1 : BitVec 32 := 1#32
  ⟨c1_i32_0, v4, c1_i32_1⟩
def k0_off1 (k0_t1 : Fin k0_t1_loop.trips) : Fin 1 → Nat :=
  let c1_i32_0 : BitVec 32 := 1#32
  let c1_i32_1 : BitVec 32 := 1#32
  let arg10 : BitVec 32 := Scf.iv c1_i32_0 c1_i32_1 k0_t1
  let v49 : Index := Scalar.indexCast arg10
  ![v49.toNat]
def k0_dev1 (v50 : BitVec 32) : Nat :=
  let c0_i32_47 : BitVec 32 := 0#32
  let c1_i32_46 : BitVec 32 := 1#32
  let v51 : BitVec 32 := Scalar.muli v50 c1_i32_46
  let v52 : BitVec 32 := Scalar.addi c0_i32_47 v51
  v52.toNat

def k0_chk1 (v50 : BitVec 32) : Prop :=
  ((k0_dev1 v50) < nD)
theorem k0_dev1_lt : ∀ (v50 : BitVec 32) (k0_hw1 : k0_chk1 v50), (k0_dev1 v50) < nD := fun v50 k0_hw1 => k0_hw1

def k0_off2 (v5 : BitVec 32) : Fin 2 → Nat :=
  let c256_i32 : BitVec 32 := 256#32
  let v6 : BitVec 32 := Scalar.muli v5 c256_i32
  let c0_i32_7 : BitVec 32 := 0#32
  ![v6.toNat, 0]

def k0_chk2 (v5 : BitVec 32) : Prop :=
  (∀ a, (k0_off2 v5) a + S256x4096.size a ≤ S8192x4096.size a)
theorem k0_off2_inb : ∀ (v5 : BitVec 32) (k0_hw2 : k0_chk2 v5), ∀ a, (k0_off2 v5) a + S256x4096.size a ≤ S8192x4096.size a := fun v5 k0_hw2 => k0_hw2

def k0_off3 (v12 : BitVec 32) : Fin 2 → Nat :=
  let c256_i32_8 : BitVec 32 := 256#32
  let v13 : BitVec 32 := Scalar.muli v12 c256_i32_8
  let c0_i32_13 : BitVec 32 := 0#32
  ![v13.toNat, 0]

def k0_chk3 (v12 : BitVec 32) : Prop :=
  (∀ a, (k0_off3 v12) a + S256x4096.size a ≤ S8192x4096.size a)
theorem k0_off3_inb : ∀ (v12 : BitVec 32) (k0_hw3 : k0_chk3 v12), ∀ a, (k0_off3 v12) a + S256x4096.size a ≤ S8192x4096.size a := fun v12 k0_hw3 => k0_hw3

def k0_off4 (v19 : BitVec 32) : Fin 2 → Nat :=
  let c256_i32_14 : BitVec 32 := 256#32
  let v20 : BitVec 32 := Scalar.muli v19 c256_i32_14
  let c0_i32_18 : BitVec 32 := 0#32
  ![v20.toNat, 0]

def k0_chk4 (v19 : BitVec 32) : Prop :=
  (∀ a, (k0_off4 v19) a + S256x4096.size a ≤ S8192x4096.size a)
theorem k0_off4_inb : ∀ (v19 : BitVec 32) (k0_hw4 : k0_chk4 v19), ∀ a, (k0_off4 v19) a + S256x4096.size a ≤ S8192x4096.size a := fun v19 k0_hw4 => k0_hw4

def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_23 : BitVec 32 := 256#32
  let v32 : BitVec 32 := Scalar.muli v2 c256_i32_23
  let v33 : Index := Scalar.indexCast v32
  let c0_24 : Index := 0#32
  ![v33.toNat, 0]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v35 : Index := Scalar.indexCast v2
  let c0_25 : Index := 0#32
  let c0_26 : Index := 0#32
  ![v35.toNat, 0, 0]
@[reducible] def k0_t2_loop : Scf.Loop 32 :=
  let c1_i32_27 : BitVec 32 := 1#32
  let c31_i32_28 : BitVec 32 := 31#32
  let v39 : BitVec 32 := Scalar.addi c1_i32_27 c31_i32_28
  let c1_i32_29 : BitVec 32 := 1#32
  ⟨c1_i32_27, v39, c1_i32_29⟩
def k0_off7 (k0_t2 : Fin k0_t2_loop.trips) : Fin 1 → Nat :=
  let c1_i32_27 : BitVec 32 := 1#32
  let c1_i32_29 : BitVec 32 := 1#32
  let arg10 : BitVec 32 := Scf.iv c1_i32_27 c1_i32_29 k0_t2
  let v49 : Index := Scalar.indexCast arg10
  ![v49.toNat]
def k0_off8 (v50 : BitVec 32) : Fin 1 → Nat :=
  ![v50.toNat]

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_48 : BitVec 32 := 0#32
  let c0_i32_49 : BitVec 32 := 0#32
  ![v2.toNat, 0, 0]
def k0_off11 (v50 : BitVec 32) : Fin 2 → Nat :=
  let c256_i32_45 : BitVec 32 := 256#32
  let v51 : BitVec 32 := Scalar.muli v50 c256_i32_45
  let c0_i32_50 : BitVec 32 := 0#32
  ![v51.toNat, 0]
def k0_dev2 (v50 : BitVec 32) : Nat :=
  let c0_i32_47 : BitVec 32 := 0#32
  let c1_i32_46 : BitVec 32 := 1#32
  let v52 : BitVec 32 := Scalar.muli v50 c1_i32_46
  let v53 : BitVec 32 := Scalar.addi c0_i32_47 v52
  v53.toNat

def k0_chk5 (v50 : BitVec 32) : Prop :=
  (∀ a, (k0_off8 v50) a + S1.size a ≤ S32.size a) ∧
  (∀ a, (k0_off11 v50) a + S256x256.size a ≤ S8192x256.size a) ∧
  (∀ (hinb : ∀ a, (k0_off11 v50) a + S256x256.size a ≤ S8192x256.size a), (Rect.unit (s := S8192x256) (k0_off11 v50) S256x256.size hinb).WholeWords (EltTy.packing .bf16)) ∧
  ((k0_dev2 v50) < nD)
theorem k0_off8_inb : ∀ (v50 : BitVec 32) (k0_hw5 : k0_chk5 v50), ∀ a, (k0_off8 v50) a + S1.size a ≤ S32.size a := fun v50 k0_hw5 => k0_hw5.1
theorem k0_off11_inb : ∀ (v50 : BitVec 32) (k0_hw5 : k0_chk5 v50), ∀ a, (k0_off11 v50) a + S256x256.size a ≤ S8192x256.size a := fun v50 k0_hw5 => k0_hw5.2.1
theorem k0_off11_wordsbf16 : ∀ (v50 : BitVec 32) (k0_hw5 : k0_chk5 v50), (Rect.unit (s := S8192x256) (k0_off11 v50) S256x256.size (k0_off11_inb v50 k0_hw5)).WholeWords (EltTy.packing .bf16) := fun v50 k0_hw5 => k0_hw5.2.2.1 (k0_off11_inb v50 k0_hw5)
theorem k0_dev2_lt : ∀ (v50 : BitVec 32) (k0_hw5 : k0_chk5 v50), (k0_dev2 v50) < nD := fun v50 k0_hw5 => k0_hw5.2.2.2

@[reducible] def k0_t3_loop : Scf.Loop 32 :=
  let c0_i32_33 : BitVec 32 := 0#32
  let c8_i32 : BitVec 32 := 8#32
  let v42 : BitVec 32 := Scalar.addi c0_i32_33 c8_i32
  let c1_i32_34 : BitVec 32 := 1#32
  ⟨c0_i32_33, v42, c1_i32_34⟩
def k0_cond1 (k0_t3 : Fin k0_t3_loop.trips) : BitVec 1 :=
  let c4_i32 : BitVec 32 := 4#32
  let c0_i32_33 : BitVec 32 := 0#32
  let c1_i32_34 : BitVec 32 := 1#32
  let arg10 : BitVec 32 := Scf.iv c0_i32_33 c1_i32_34 k0_t3
  let v49 : BitVec 32 := Scalar.muli c4_i32 arg10
  let c0_i32_45 : BitVec 32 := 0#32
  let v50 : BitVec 32 := Scalar.addi v49 c0_i32_45
  let c3_i32 : BitVec 32 := 3#32
  let v51 : BitVec 32 := Scalar.addi v50 c3_i32
  let c32_i32_46 : BitVec 32 := 32#32
  let v52 : BitVec 1 := Scalar.cmpi .slt v51 c32_i32_46
  let v53 : BitVec 32 := Scalar.extui v52
  let c0_i32_47 : BitVec 32 := 0#32
  let v54 : BitVec 1 := Scalar.cmpi .ne v53 c0_i32_47
  v54

def k0_off12 (k0_t3 : Fin k0_t3_loop.trips) : Fin 1 → Nat :=
  let c4_i32 : BitVec 32 := 4#32
  let c0_i32_33 : BitVec 32 := 0#32
  let c1_i32_34 : BitVec 32 := 1#32
  let arg10 : BitVec 32 := Scf.iv c0_i32_33 c1_i32_34 k0_t3
  let v49 : BitVec 32 := Scalar.muli c4_i32 arg10
  let c0_i32_45 : BitVec 32 := 0#32
  let v50 : BitVec 32 := Scalar.addi v49 c0_i32_45
  let c3_i32_127 : BitVec 32 := 3#32
  let v166 : BitVec 32 := Scalar.addi v50 c3_i32_127
  let v167 : Index := Scalar.indexCast v166
  ![v167.toNat]
def k0_off13 (v168 : BitVec 32) : Fin 2 → Nat :=
  let c256_i32_128 : BitVec 32 := 256#32
  let v169 : BitVec 32 := Scalar.muli v168 c256_i32_128
  let c0_i32_133 : BitVec 32 := 0#32
  ![v169.toNat, 0]

def k0_chk6 (k0_t3 : Fin k0_t3_loop.trips) (v168 : BitVec 32) : Prop :=
  (∀ (k0_h1 : k0_cond1 k0_t3 = 1#1), ∀ a, (k0_off13 v168) a + S256x4096.size a ≤ S8192x4096.size a)
theorem k0_off13_inb : ∀ (k0_t3 : Fin k0_t3_loop.trips) (v168 : BitVec 32) (k0_hw6 : k0_chk6 k0_t3 v168), ∀ (k0_h1 : k0_cond1 k0_t3 = 1#1), ∀ a, (k0_off13 v168) a + S256x4096.size a ≤ S8192x4096.size a := fun k0_t3 v168 k0_hw6 k0_h1 => k0_hw6 k0_h1

def k0_off14 (k0_t3 : Fin k0_t3_loop.trips) : Fin 1 → Nat :=
  let c4_i32 : BitVec 32 := 4#32
  let c0_i32_33 : BitVec 32 := 0#32
  let c1_i32_34 : BitVec 32 := 1#32
  let arg10 : BitVec 32 := Scf.iv c0_i32_33 c1_i32_34 k0_t3
  let v49 : BitVec 32 := Scalar.muli c4_i32 arg10
  let c0_i32_45 : BitVec 32 := 0#32
  let v50 : BitVec 32 := Scalar.addi v49 c0_i32_45
  let v55 : Index := Scalar.indexCast v50
  ![v55.toNat]
def k0_off15 (v58 : BitVec 32) : Fin 2 → Nat :=
  let c256_i32_48 : BitVec 32 := 256#32
  let v59 : BitVec 32 := Scalar.muli v58 c256_i32_48
  let c0_i32_53 : BitVec 32 := 0#32
  ![v59.toNat, 0]

def k0_chk7 (v58 : BitVec 32) : Prop :=
  (∀ a, (k0_off15 v58) a + S256x4096.size a ≤ S8192x4096.size a)
theorem k0_off15_inb : ∀ (v58 : BitVec 32) (k0_hw7 : k0_chk7 v58), ∀ a, (k0_off15 v58) a + S256x4096.size a ≤ S8192x4096.size a := fun v58 k0_hw7 => k0_hw7

def k0_off16 (v56 : BitVec 32) : Fin 1 → Nat :=
  ![v56.toNat]
def k0_cond2 (d0 : Dev nD) (v56 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v65 : BitVec 1 := Scalar.cmpi .ne v56 v2
  let v66 : BitVec 32 := Scalar.extui v65
  let c0_i32_54 : BitVec 32 := 0#32
  let v67 : BitVec 1 := Scalar.cmpi .ne v66 c0_i32_54
  v67

def k0_off17 (v56 : BitVec 32) : Fin 3 → Nat :=
  let c0_i32_129 : BitVec 32 := 0#32
  let c0_i32_130 : BitVec 32 := 0#32
  ![v56.toNat, 0, 0]
def k0_off18 (v56 : BitVec 32) : Fin 3 → Nat :=
  let v70 : Index := Scalar.indexCast v56
  let c0_57 : Index := 0#32
  let c0_58 : Index := 0#32
  ![v70.toNat, 0, 0]

def k0_chk8 (d0 : Dev nD) (v56 : BitVec 32) : Prop :=
  (∀ (k0_h2 : k0_cond2 d0 v56 = 1#1), ∀ a, (k0_off16 v56) a + S1.size a ≤ S32.size a) ∧
  (∀ (k0_h2 : k0_cond2 d0 v56 = 1#1), ∀ a, (k0_off17 v56) a + S1x256x256.size a ≤ S32x256x256.size a) ∧
  (∀ (k0_h2 : k0_cond2 d0 v56 = 1#1), ∀ (hinb : ∀ a, (k0_off17 v56) a + S1x256x256.size a ≤ S32x256x256.size a), (Rect.unit (s := S32x256x256) (k0_off17 v56) S1x256x256.size hinb).WholeWords (EltTy.packing .bf16)) ∧
  (∀ a, (k0_off18 v56) a + S1x256x256.size a ≤ S32x256x256.size a)
theorem k0_off16_inb : ∀ (d0 : Dev nD) (v56 : BitVec 32) (k0_hw8 : k0_chk8 d0 v56), ∀ (k0_h2 : k0_cond2 d0 v56 = 1#1), ∀ a, (k0_off16 v56) a + S1.size a ≤ S32.size a := fun d0 v56 k0_hw8 k0_h2 => k0_hw8.1 k0_h2
theorem k0_off17_inb : ∀ (d0 : Dev nD) (v56 : BitVec 32) (k0_hw8 : k0_chk8 d0 v56), ∀ (k0_h2 : k0_cond2 d0 v56 = 1#1), ∀ a, (k0_off17 v56) a + S1x256x256.size a ≤ S32x256x256.size a := fun d0 v56 k0_hw8 k0_h2 => k0_hw8.2.1 k0_h2
theorem k0_off17_wordsbf16 : ∀ (d0 : Dev nD) (v56 : BitVec 32) (k0_hw8 : k0_chk8 d0 v56), ∀ (k0_h2 : k0_cond2 d0 v56 = 1#1), (Rect.unit (s := S32x256x256) (k0_off17 v56) S1x256x256.size (k0_off17_inb d0 v56 k0_hw8 k0_h2)).WholeWords (EltTy.packing .bf16) := fun d0 v56 k0_hw8 k0_h2 => k0_hw8.2.2.1 k0_h2 (k0_off17_inb d0 v56 k0_hw8 k0_h2)
theorem k0_off18_inb : ∀ (d0 : Dev nD) (v56 : BitVec 32) (k0_hw8 : k0_chk8 d0 v56), ∀ a, (k0_off18 v56) a + S1x256x256.size a ≤ S32x256x256.size a := fun d0 v56 k0_hw8 => k0_hw8.2.2.2

def k0_cond3 (k0_t3 : Fin k0_t3_loop.trips) : BitVec 1 :=
  let c4_i32 : BitVec 32 := 4#32
  let c0_i32_33 : BitVec 32 := 0#32
  let c1_i32_34 : BitVec 32 := 1#32
  let arg10 : BitVec 32 := Scf.iv c0_i32_33 c1_i32_34 k0_t3
  let v49 : BitVec 32 := Scalar.muli c4_i32 arg10
  let c1_i32_65 : BitVec 32 := 1#32
  let v79 : BitVec 32 := Scalar.addi v49 c1_i32_65
  let c3_i32_66 : BitVec 32 := 3#32
  let v80 : BitVec 32 := Scalar.addi v79 c3_i32_66
  let c32_i32_67 : BitVec 32 := 32#32
  let v81 : BitVec 1 := Scalar.cmpi .slt v80 c32_i32_67
  let v82 : BitVec 32 := Scalar.extui v81
  let c0_i32_68 : BitVec 32 := 0#32
  let v83 : BitVec 1 := Scalar.cmpi .ne v82 c0_i32_68
  v83

def k0_off19 (k0_t3 : Fin k0_t3_loop.trips) : Fin 1 → Nat :=
  let c4_i32 : BitVec 32 := 4#32
  let c0_i32_33 : BitVec 32 := 0#32
  let c1_i32_34 : BitVec 32 := 1#32
  let arg10 : BitVec 32 := Scf.iv c0_i32_33 c1_i32_34 k0_t3
  let v49 : BitVec 32 := Scalar.muli c4_i32 arg10
  let c1_i32_65 : BitVec 32 := 1#32
  let v79 : BitVec 32 := Scalar.addi v49 c1_i32_65
  let c3_i32_127 : BitVec 32 := 3#32
  let v166 : BitVec 32 := Scalar.addi v79 c3_i32_127
  let v167 : Index := Scalar.indexCast v166
  ![v167.toNat]
def k0_off20 (v168 : BitVec 32) : Fin 2 → Nat :=
  let c256_i32_128 : BitVec 32 := 256#32
  let v169 : BitVec 32 := Scalar.muli v168 c256_i32_128
  let c0_i32_133 : BitVec 32 := 0#32
  ![v169.toNat, 0]

def k0_chk9 (k0_t3 : Fin k0_t3_loop.trips) (v168 : BitVec 32) : Prop :=
  (∀ (k0_h3 : k0_cond3 k0_t3 = 1#1), ∀ a, (k0_off20 v168) a + S256x4096.size a ≤ S8192x4096.size a)
theorem k0_off20_inb : ∀ (k0_t3 : Fin k0_t3_loop.trips) (v168 : BitVec 32) (k0_hw9 : k0_chk9 k0_t3 v168), ∀ (k0_h3 : k0_cond3 k0_t3 = 1#1), ∀ a, (k0_off20 v168) a + S256x4096.size a ≤ S8192x4096.size a := fun k0_t3 v168 k0_hw9 k0_h3 => k0_hw9 k0_h3

def k0_off21 (k0_t3 : Fin k0_t3_loop.trips) : Fin 1 → Nat :=
  let c4_i32 : BitVec 32 := 4#32
  let c0_i32_33 : BitVec 32 := 0#32
  let c1_i32_34 : BitVec 32 := 1#32
  let arg10 : BitVec 32 := Scf.iv c0_i32_33 c1_i32_34 k0_t3
  let v49 : BitVec 32 := Scalar.muli c4_i32 arg10
  let c1_i32_65 : BitVec 32 := 1#32
  let v79 : BitVec 32 := Scalar.addi v49 c1_i32_65
  let v84 : Index := Scalar.indexCast v79
  ![v84.toNat]
def k0_off22 (v87 : BitVec 32) : Fin 2 → Nat :=
  let c256_i32_69 : BitVec 32 := 256#32
  let v88 : BitVec 32 := Scalar.muli v87 c256_i32_69
  let c0_i32_74 : BitVec 32 := 0#32
  ![v88.toNat, 0]

def k0_chk10 (v87 : BitVec 32) : Prop :=
  (∀ a, (k0_off22 v87) a + S256x4096.size a ≤ S8192x4096.size a)
theorem k0_off22_inb : ∀ (v87 : BitVec 32) (k0_hw10 : k0_chk10 v87), ∀ a, (k0_off22 v87) a + S256x4096.size a ≤ S8192x4096.size a := fun v87 k0_hw10 => k0_hw10

def k0_off23 (v85 : BitVec 32) : Fin 1 → Nat :=
  ![v85.toNat]
def k0_cond4 (d0 : Dev nD) (v85 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v94 : BitVec 1 := Scalar.cmpi .ne v85 v2
  let v95 : BitVec 32 := Scalar.extui v94
  let c0_i32_75 : BitVec 32 := 0#32
  let v96 : BitVec 1 := Scalar.cmpi .ne v95 c0_i32_75
  v96

def k0_off24 (v85 : BitVec 32) : Fin 3 → Nat :=
  let c0_i32_129 : BitVec 32 := 0#32
  let c0_i32_130 : BitVec 32 := 0#32
  ![v85.toNat, 0, 0]
def k0_off25 (v85 : BitVec 32) : Fin 3 → Nat :=
  let v99 : Index := Scalar.indexCast v85
  let c0_78 : Index := 0#32
  let c0_79 : Index := 0#32
  ![v99.toNat, 0, 0]

def k0_chk11 (d0 : Dev nD) (v85 : BitVec 32) : Prop :=
  (∀ (k0_h4 : k0_cond4 d0 v85 = 1#1), ∀ a, (k0_off23 v85) a + S1.size a ≤ S32.size a) ∧
  (∀ (k0_h4 : k0_cond4 d0 v85 = 1#1), ∀ a, (k0_off24 v85) a + S1x256x256.size a ≤ S32x256x256.size a) ∧
  (∀ (k0_h4 : k0_cond4 d0 v85 = 1#1), ∀ (hinb : ∀ a, (k0_off24 v85) a + S1x256x256.size a ≤ S32x256x256.size a), (Rect.unit (s := S32x256x256) (k0_off24 v85) S1x256x256.size hinb).WholeWords (EltTy.packing .bf16)) ∧
  (∀ a, (k0_off25 v85) a + S1x256x256.size a ≤ S32x256x256.size a)
theorem k0_off23_inb : ∀ (d0 : Dev nD) (v85 : BitVec 32) (k0_hw11 : k0_chk11 d0 v85), ∀ (k0_h4 : k0_cond4 d0 v85 = 1#1), ∀ a, (k0_off23 v85) a + S1.size a ≤ S32.size a := fun d0 v85 k0_hw11 k0_h4 => k0_hw11.1 k0_h4
theorem k0_off24_inb : ∀ (d0 : Dev nD) (v85 : BitVec 32) (k0_hw11 : k0_chk11 d0 v85), ∀ (k0_h4 : k0_cond4 d0 v85 = 1#1), ∀ a, (k0_off24 v85) a + S1x256x256.size a ≤ S32x256x256.size a := fun d0 v85 k0_hw11 k0_h4 => k0_hw11.2.1 k0_h4
theorem k0_off24_wordsbf16 : ∀ (d0 : Dev nD) (v85 : BitVec 32) (k0_hw11 : k0_chk11 d0 v85), ∀ (k0_h4 : k0_cond4 d0 v85 = 1#1), (Rect.unit (s := S32x256x256) (k0_off24 v85) S1x256x256.size (k0_off24_inb d0 v85 k0_hw11 k0_h4)).WholeWords (EltTy.packing .bf16) := fun d0 v85 k0_hw11 k0_h4 => k0_hw11.2.2.1 k0_h4 (k0_off24_inb d0 v85 k0_hw11 k0_h4)
theorem k0_off25_inb : ∀ (d0 : Dev nD) (v85 : BitVec 32) (k0_hw11 : k0_chk11 d0 v85), ∀ a, (k0_off25 v85) a + S1x256x256.size a ≤ S32x256x256.size a := fun d0 v85 k0_hw11 => k0_hw11.2.2.2

def k0_cond5 (k0_t3 : Fin k0_t3_loop.trips) : BitVec 1 :=
  let c4_i32 : BitVec 32 := 4#32
  let c0_i32_33 : BitVec 32 := 0#32
  let c1_i32_34 : BitVec 32 := 1#32
  let arg10 : BitVec 32 := Scf.iv c0_i32_33 c1_i32_34 k0_t3
  let v49 : BitVec 32 := Scalar.muli c4_i32 arg10
  let c2_i32_86 : BitVec 32 := 2#32
  let v108 : BitVec 32 := Scalar.addi v49 c2_i32_86
  let c3_i32_87 : BitVec 32 := 3#32
  let v109 : BitVec 32 := Scalar.addi v108 c3_i32_87
  let c32_i32_88 : BitVec 32 := 32#32
  let v110 : BitVec 1 := Scalar.cmpi .slt v109 c32_i32_88
  let v111 : BitVec 32 := Scalar.extui v110
  let c0_i32_89 : BitVec 32 := 0#32
  let v112 : BitVec 1 := Scalar.cmpi .ne v111 c0_i32_89
  v112

def k0_off26 (k0_t3 : Fin k0_t3_loop.trips) : Fin 1 → Nat :=
  let c4_i32 : BitVec 32 := 4#32
  let c0_i32_33 : BitVec 32 := 0#32
  let c1_i32_34 : BitVec 32 := 1#32
  let arg10 : BitVec 32 := Scf.iv c0_i32_33 c1_i32_34 k0_t3
  let v49 : BitVec 32 := Scalar.muli c4_i32 arg10
  let c2_i32_86 : BitVec 32 := 2#32
  let v108 : BitVec 32 := Scalar.addi v49 c2_i32_86
  let c3_i32_127 : BitVec 32 := 3#32
  let v166 : BitVec 32 := Scalar.addi v108 c3_i32_127
  let v167 : Index := Scalar.indexCast v166
  ![v167.toNat]
def k0_off27 (v168 : BitVec 32) : Fin 2 → Nat :=
  let c256_i32_128 : BitVec 32 := 256#32
  let v169 : BitVec 32 := Scalar.muli v168 c256_i32_128
  let c0_i32_133 : BitVec 32 := 0#32
  ![v169.toNat, 0]

def k0_chk12 (k0_t3 : Fin k0_t3_loop.trips) (v168 : BitVec 32) : Prop :=
  (∀ (k0_h5 : k0_cond5 k0_t3 = 1#1), ∀ a, (k0_off27 v168) a + S256x4096.size a ≤ S8192x4096.size a)
theorem k0_off27_inb : ∀ (k0_t3 : Fin k0_t3_loop.trips) (v168 : BitVec 32) (k0_hw12 : k0_chk12 k0_t3 v168), ∀ (k0_h5 : k0_cond5 k0_t3 = 1#1), ∀ a, (k0_off27 v168) a + S256x4096.size a ≤ S8192x4096.size a := fun k0_t3 v168 k0_hw12 k0_h5 => k0_hw12 k0_h5

def k0_off28 (k0_t3 : Fin k0_t3_loop.trips) : Fin 1 → Nat :=
  let c4_i32 : BitVec 32 := 4#32
  let c0_i32_33 : BitVec 32 := 0#32
  let c1_i32_34 : BitVec 32 := 1#32
  let arg10 : BitVec 32 := Scf.iv c0_i32_33 c1_i32_34 k0_t3
  let v49 : BitVec 32 := Scalar.muli c4_i32 arg10
  let c2_i32_86 : BitVec 32 := 2#32
  let v108 : BitVec 32 := Scalar.addi v49 c2_i32_86
  let v113 : Index := Scalar.indexCast v108
  ![v113.toNat]
def k0_off29 (v116 : BitVec 32) : Fin 2 → Nat :=
  let c256_i32_90 : BitVec 32 := 256#32
  let v117 : BitVec 32 := Scalar.muli v116 c256_i32_90
  let c0_i32_95 : BitVec 32 := 0#32
  ![v117.toNat, 0]

def k0_chk13 (v116 : BitVec 32) : Prop :=
  (∀ a, (k0_off29 v116) a + S256x4096.size a ≤ S8192x4096.size a)
theorem k0_off29_inb : ∀ (v116 : BitVec 32) (k0_hw13 : k0_chk13 v116), ∀ a, (k0_off29 v116) a + S256x4096.size a ≤ S8192x4096.size a := fun v116 k0_hw13 => k0_hw13

def k0_off30 (v114 : BitVec 32) : Fin 1 → Nat :=
  ![v114.toNat]
def k0_cond6 (d0 : Dev nD) (v114 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v123 : BitVec 1 := Scalar.cmpi .ne v114 v2
  let v124 : BitVec 32 := Scalar.extui v123
  let c0_i32_96 : BitVec 32 := 0#32
  let v125 : BitVec 1 := Scalar.cmpi .ne v124 c0_i32_96
  v125

def k0_off31 (v114 : BitVec 32) : Fin 3 → Nat :=
  let c0_i32_129 : BitVec 32 := 0#32
  let c0_i32_130 : BitVec 32 := 0#32
  ![v114.toNat, 0, 0]
def k0_off32 (v114 : BitVec 32) : Fin 3 → Nat :=
  let v128 : Index := Scalar.indexCast v114
  let c0_99 : Index := 0#32
  let c0_100 : Index := 0#32
  ![v128.toNat, 0, 0]

def k0_chk14 (d0 : Dev nD) (v114 : BitVec 32) : Prop :=
  (∀ (k0_h6 : k0_cond6 d0 v114 = 1#1), ∀ a, (k0_off30 v114) a + S1.size a ≤ S32.size a) ∧
  (∀ (k0_h6 : k0_cond6 d0 v114 = 1#1), ∀ a, (k0_off31 v114) a + S1x256x256.size a ≤ S32x256x256.size a) ∧
  (∀ (k0_h6 : k0_cond6 d0 v114 = 1#1), ∀ (hinb : ∀ a, (k0_off31 v114) a + S1x256x256.size a ≤ S32x256x256.size a), (Rect.unit (s := S32x256x256) (k0_off31 v114) S1x256x256.size hinb).WholeWords (EltTy.packing .bf16)) ∧
  (∀ a, (k0_off32 v114) a + S1x256x256.size a ≤ S32x256x256.size a)
theorem k0_off30_inb : ∀ (d0 : Dev nD) (v114 : BitVec 32) (k0_hw14 : k0_chk14 d0 v114), ∀ (k0_h6 : k0_cond6 d0 v114 = 1#1), ∀ a, (k0_off30 v114) a + S1.size a ≤ S32.size a := fun d0 v114 k0_hw14 k0_h6 => k0_hw14.1 k0_h6
theorem k0_off31_inb : ∀ (d0 : Dev nD) (v114 : BitVec 32) (k0_hw14 : k0_chk14 d0 v114), ∀ (k0_h6 : k0_cond6 d0 v114 = 1#1), ∀ a, (k0_off31 v114) a + S1x256x256.size a ≤ S32x256x256.size a := fun d0 v114 k0_hw14 k0_h6 => k0_hw14.2.1 k0_h6
theorem k0_off31_wordsbf16 : ∀ (d0 : Dev nD) (v114 : BitVec 32) (k0_hw14 : k0_chk14 d0 v114), ∀ (k0_h6 : k0_cond6 d0 v114 = 1#1), (Rect.unit (s := S32x256x256) (k0_off31 v114) S1x256x256.size (k0_off31_inb d0 v114 k0_hw14 k0_h6)).WholeWords (EltTy.packing .bf16) := fun d0 v114 k0_hw14 k0_h6 => k0_hw14.2.2.1 k0_h6 (k0_off31_inb d0 v114 k0_hw14 k0_h6)
theorem k0_off32_inb : ∀ (d0 : Dev nD) (v114 : BitVec 32) (k0_hw14 : k0_chk14 d0 v114), ∀ a, (k0_off32 v114) a + S1x256x256.size a ≤ S32x256x256.size a := fun d0 v114 k0_hw14 => k0_hw14.2.2.2

def k0_cond7 (k0_t3 : Fin k0_t3_loop.trips) : BitVec 1 :=
  let c4_i32 : BitVec 32 := 4#32
  let c0_i32_33 : BitVec 32 := 0#32
  let c1_i32_34 : BitVec 32 := 1#32
  let arg10 : BitVec 32 := Scf.iv c0_i32_33 c1_i32_34 k0_t3
  let v49 : BitVec 32 := Scalar.muli c4_i32 arg10
  let c3_i32_107 : BitVec 32 := 3#32
  let v137 : BitVec 32 := Scalar.addi v49 c3_i32_107
  let c3_i32_108 : BitVec 32 := 3#32
  let v138 : BitVec 32 := Scalar.addi v137 c3_i32_108
  let c32_i32_109 : BitVec 32 := 32#32
  let v139 : BitVec 1 := Scalar.cmpi .slt v138 c32_i32_109
  let v140 : BitVec 32 := Scalar.extui v139
  let c0_i32_110 : BitVec 32 := 0#32
  let v141 : BitVec 1 := Scalar.cmpi .ne v140 c0_i32_110
  v141

def k0_off33 (k0_t3 : Fin k0_t3_loop.trips) : Fin 1 → Nat :=
  let c4_i32 : BitVec 32 := 4#32
  let c0_i32_33 : BitVec 32 := 0#32
  let c1_i32_34 : BitVec 32 := 1#32
  let arg10 : BitVec 32 := Scf.iv c0_i32_33 c1_i32_34 k0_t3
  let v49 : BitVec 32 := Scalar.muli c4_i32 arg10
  let c3_i32_107 : BitVec 32 := 3#32
  let v137 : BitVec 32 := Scalar.addi v49 c3_i32_107
  let c3_i32_127 : BitVec 32 := 3#32
  let v166 : BitVec 32 := Scalar.addi v137 c3_i32_127
  let v167 : Index := Scalar.indexCast v166
  ![v167.toNat]
def k0_off34 (v168 : BitVec 32) : Fin 2 → Nat :=
  let c256_i32_128 : BitVec 32 := 256#32
  let v169 : BitVec 32 := Scalar.muli v168 c256_i32_128
  let c0_i32_133 : BitVec 32 := 0#32
  ![v169.toNat, 0]

def k0_chk15 (k0_t3 : Fin k0_t3_loop.trips) (v168 : BitVec 32) : Prop :=
  (∀ (k0_h7 : k0_cond7 k0_t3 = 1#1), ∀ a, (k0_off34 v168) a + S256x4096.size a ≤ S8192x4096.size a)
theorem k0_off34_inb : ∀ (k0_t3 : Fin k0_t3_loop.trips) (v168 : BitVec 32) (k0_hw15 : k0_chk15 k0_t3 v168), ∀ (k0_h7 : k0_cond7 k0_t3 = 1#1), ∀ a, (k0_off34 v168) a + S256x4096.size a ≤ S8192x4096.size a := fun k0_t3 v168 k0_hw15 k0_h7 => k0_hw15 k0_h7

def k0_off35 (k0_t3 : Fin k0_t3_loop.trips) : Fin 1 → Nat :=
  let c4_i32 : BitVec 32 := 4#32
  let c0_i32_33 : BitVec 32 := 0#32
  let c1_i32_34 : BitVec 32 := 1#32
  let arg10 : BitVec 32 := Scf.iv c0_i32_33 c1_i32_34 k0_t3
  let v49 : BitVec 32 := Scalar.muli c4_i32 arg10
  let c3_i32_107 : BitVec 32 := 3#32
  let v137 : BitVec 32 := Scalar.addi v49 c3_i32_107
  let v142 : Index := Scalar.indexCast v137
  ![v142.toNat]
def k0_off36 (v145 : BitVec 32) : Fin 2 → Nat :=
  let c256_i32_111 : BitVec 32 := 256#32
  let v146 : BitVec 32 := Scalar.muli v145 c256_i32_111
  let c0_i32_116 : BitVec 32 := 0#32
  ![v146.toNat, 0]

def k0_chk16 (v145 : BitVec 32) : Prop :=
  (∀ a, (k0_off36 v145) a + S256x4096.size a ≤ S8192x4096.size a)
theorem k0_off36_inb : ∀ (v145 : BitVec 32) (k0_hw16 : k0_chk16 v145), ∀ a, (k0_off36 v145) a + S256x4096.size a ≤ S8192x4096.size a := fun v145 k0_hw16 => k0_hw16

def k0_off37 (v143 : BitVec 32) : Fin 1 → Nat :=
  ![v143.toNat]
def k0_cond8 (d0 : Dev nD) (v143 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v152 : BitVec 1 := Scalar.cmpi .ne v143 v2
  let v153 : BitVec 32 := Scalar.extui v152
  let c0_i32_117 : BitVec 32 := 0#32
  let v154 : BitVec 1 := Scalar.cmpi .ne v153 c0_i32_117
  v154

def k0_off38 (v143 : BitVec 32) : Fin 3 → Nat :=
  let c0_i32_129 : BitVec 32 := 0#32
  let c0_i32_130 : BitVec 32 := 0#32
  ![v143.toNat, 0, 0]
def k0_off39 (v143 : BitVec 32) : Fin 3 → Nat :=
  let v157 : Index := Scalar.indexCast v143
  let c0_120 : Index := 0#32
  let c0_121 : Index := 0#32
  ![v157.toNat, 0, 0]

def k0_chk17 (d0 : Dev nD) (v143 : BitVec 32) : Prop :=
  (∀ (k0_h8 : k0_cond8 d0 v143 = 1#1), ∀ a, (k0_off37 v143) a + S1.size a ≤ S32.size a) ∧
  (∀ (k0_h8 : k0_cond8 d0 v143 = 1#1), ∀ a, (k0_off38 v143) a + S1x256x256.size a ≤ S32x256x256.size a) ∧
  (∀ (k0_h8 : k0_cond8 d0 v143 = 1#1), ∀ (hinb : ∀ a, (k0_off38 v143) a + S1x256x256.size a ≤ S32x256x256.size a), (Rect.unit (s := S32x256x256) (k0_off38 v143) S1x256x256.size hinb).WholeWords (EltTy.packing .bf16)) ∧
  (∀ a, (k0_off39 v143) a + S1x256x256.size a ≤ S32x256x256.size a)
theorem k0_off37_inb : ∀ (d0 : Dev nD) (v143 : BitVec 32) (k0_hw17 : k0_chk17 d0 v143), ∀ (k0_h8 : k0_cond8 d0 v143 = 1#1), ∀ a, (k0_off37 v143) a + S1.size a ≤ S32.size a := fun d0 v143 k0_hw17 k0_h8 => k0_hw17.1 k0_h8
theorem k0_off38_inb : ∀ (d0 : Dev nD) (v143 : BitVec 32) (k0_hw17 : k0_chk17 d0 v143), ∀ (k0_h8 : k0_cond8 d0 v143 = 1#1), ∀ a, (k0_off38 v143) a + S1x256x256.size a ≤ S32x256x256.size a := fun d0 v143 k0_hw17 k0_h8 => k0_hw17.2.1 k0_h8
theorem k0_off38_wordsbf16 : ∀ (d0 : Dev nD) (v143 : BitVec 32) (k0_hw17 : k0_chk17 d0 v143), ∀ (k0_h8 : k0_cond8 d0 v143 = 1#1), (Rect.unit (s := S32x256x256) (k0_off38 v143) S1x256x256.size (k0_off38_inb d0 v143 k0_hw17 k0_h8)).WholeWords (EltTy.packing .bf16) := fun d0 v143 k0_hw17 k0_h8 => k0_hw17.2.2.1 k0_h8 (k0_off38_inb d0 v143 k0_hw17 k0_h8)
theorem k0_off39_inb : ∀ (d0 : Dev nD) (v143 : BitVec 32) (k0_hw17 : k0_chk17 d0 v143), ∀ a, (k0_off39 v143) a + S1x256x256.size a ≤ S32x256x256.size a := fun d0 v143 k0_hw17 => k0_hw17.2.2.2

@[reducible] def k0_t4_loop : Scf.Loop 32 :=
  let c1_i32_41 : BitVec 32 := 1#32
  let c31_i32_42 : BitVec 32 := 31#32
  let v48 : BitVec 32 := Scalar.addi c1_i32_41 c31_i32_42
  let c1_i32_43 : BitVec 32 := 1#32
  ⟨c1_i32_41, v48, c1_i32_43⟩
def k0_off40 (k0_t4 : Fin k0_t4_loop.trips) : Fin 1 → Nat :=
  let c1_i32_41 : BitVec 32 := 1#32
  let c1_i32_43 : BitVec 32 := 1#32
  let arg10 : BitVec 32 := Scf.iv c1_i32_41 c1_i32_43 k0_t4
  let v49 : Index := Scalar.indexCast arg10
  ![v49.toNat]
def k0_off41 (v50 : BitVec 32) : Fin 1 → Nat :=
  ![v50.toNat]

def k0_chk18 (v50 : BitVec 32) : Prop :=
  (∀ a, (k0_off41 v50) a + S1.size a ≤ S32.size a)
theorem k0_off41_inb : ∀ (v50 : BitVec 32) (k0_hw18 : k0_chk18 v50), ∀ a, (k0_off41 v50) a + S1.size a ≤ S32.size a := fun v50 k0_hw18 => k0_hw18

abbrev stage0_0 : Fin 1 → Memref sig .tc .smem S32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Table.lean ====
/-
  The order table: device `c` meets its peers in the order `ord c 0, ord c 1, …, ord c 31`, row `c` of the constant
  the program holds. Here: each row is a permutation of the 32 devices that begins with `c` itself, and what the body
  computes from a word of its row (offsets, device ids, guards) in closed form.
-/
module

public import proofs.«01_k».proof.Proof.Gen.KernelIdeal.Launch

@[expose] public section

noncomputable section

namespace Cert.KernelIdeal.A2A

open Idealize.ShloMosaic Idealize.ShloMosaic.TcCoe
open Cert.KernelIdeal Cert.KernelIdeal.Gen

/-! ## The rows of the table -/

/-- The device that device `c` meets at step `j` (steps beyond 31 wrap, and are never met). -/
def ord (c : Fin 32) (j : ℕ) : Fin 32 := ⟨(lit0t (32 * c.val + j % 32)).toNat % 32, Nat.mod_lt _ (by decide)⟩

/-- The word the table holds there. -/
abbrev wd (k : Fin 32) : BitVec 32 := BitVec.ofNat 32 k.val

set_option maxRecDepth 100000 in
theorem lit_ord : ∀ (c j : Fin 32), lit0t (32 * c.val + j.val) = wd (ord c j.val) := by decide +kernel

set_option maxRecDepth 100000 in
theorem ord_zero : ∀ c : Fin 32, ord c 0 = c := by decide +kernel

set_option maxRecDepth 100000 in
theorem ord_nodup : ∀ c : Fin 32, ((List.range 32).map (ord c)).Nodup := by decide +kernel

theorem ord_inj (c : Fin 32) {i j : ℕ} (hi : i < 32) (hj : j < 32) (h : ord c i = ord c j) : i = j :=
  List.inj_on_of_nodup_map (ord_nodup c) (List.mem_range.2 hi) (List.mem_range.2 hj) h

theorem ord_ne (c : Fin 32) {j : ℕ} (h0 : 0 < j) (hj : j < 32) : ord c j ≠ c := fun h =>
  absurd (ord_inj c hj (by decide) (h.trans (ord_zero c).symm)) (by omega)

/-- The devices in the order of device `c`'s row are all the devices. -/
theorem ord_image (c : Fin 32) : (Finset.range 32).image (ord c) = Finset.univ :=
  Finset.eq_univ_of_card _ (by
    rw [Finset.card_image_of_injOn (fun i hi j hj h => ord_inj c (Finset.mem_range.1 hi) (Finset.mem_range.1 hj) h)]; rfl)

/-- Without the first they are all but `c` itself. -/
theorem ord_image_rest (c : Fin 32) : (Finset.Ico 1 32).image (ord c) = Finset.univ.erase c := by
  ext d
  simp only [Finset.mem_image, Finset.mem_Ico, Finset.mem_erase, Finset.mem_univ, and_true]
  constructor
  · rintro ⟨j, ⟨h0, hj⟩, rfl⟩; exact ord_ne c h0 hj
  · intro hd
    obtain ⟨j, hj, rfl⟩ := Finset.mem_image.1 ((ord_image c).symm ▸ Finset.mem_univ d)
    refine ⟨j, ⟨?_, Finset.mem_range.1 hj⟩, rfl⟩
    rcases Nat.eq_zero_or_pos j with rfl | h
    · exact absurd (ord_zero c) hd
    · exact h

/-! ## The trips of the four loops -/

theorem trips1 : k0_t1_loop.trips = 31 := by decide +kernel
theorem trips2 : k0_t2_loop.trips = 31 := by decide +kernel
theorem trips3 : k0_t3_loop.trips = 8 := by decide +kernel
theorem trips4 : k0_t4_loop.trips = 31 := by decide +kernel

theorem off1_eq : ∀ i : Fin k0_t1_loop.trips, k0_off1 i = ![i.val + 1] := by decide +kernel
theorem off7_eq : ∀ i : Fin k0_t2_loop.trips, k0_off7 i = ![i.val + 1] := by decide +kernel
theorem off40_eq : ∀ i : Fin k0_t4_loop.trips, k0_off40 i = ![i.val + 1] := by decide +kernel
theorem off12_eq : ∀ i : Fin k0_t3_loop.trips, k0_off12 i = ![4 * i.val + 0 + 3] := by decide +kernel
theorem off19_eq : ∀ i : Fin k0_t3_loop.trips, k0_off19 i = ![4 * i.val + 1 + 3] := by decide +kernel
theorem off26_eq : ∀ i : Fin k0_t3_loop.trips, k0_off26 i = ![4 * i.val + 2 + 3] := by decide +kernel
theorem off33_eq : ∀ i : Fin k0_t3_loop.trips, k0_off33 i = ![4 * i.val + 3 + 3] := by decide +kernel
theorem off14_eq : ∀ i : Fin k0_t3_loop.trips, k0_off14 i = ![4 * i.val + 0] := by decide +kernel
theorem off21_eq : ∀ i : Fin k0_t3_loop.trips, k0_off21 i = ![4 * i.val + 1] := by decide +kernel
theorem off28_eq : ∀ i : Fin k0_t3_loop.trips, k0_off28 i = ![4 * i.val + 2] := by decide +kernel
theorem off35_eq : ∀ i : Fin k0_t3_loop.trips, k0_off35 i = ![4 * i.val + 3] := by decide +kernel
theorem cond1_iff : ∀ i : Fin k0_t3_loop.trips, k0_cond1 i = 1#1 ↔ 4 * i.val + 0 + 3 < 32 := by decide +kernel
theorem cond3_iff : ∀ i : Fin k0_t3_loop.trips, k0_cond3 i = 1#1 ↔ 4 * i.val + 1 + 3 < 32 := by decide +kernel
theorem cond5_iff : ∀ i : Fin k0_t3_loop.trips, k0_cond5 i = 1#1 ↔ 4 * i.val + 2 + 3 < 32 := by decide +kernel
theorem cond7_iff : ∀ i : Fin k0_t3_loop.trips, k0_cond7 i = 1#1 ↔ 4 * i.val + 3 + 3 < 32 := by decide +kernel

/-! ## What the body computes from a word of the row -/

theorem chk1_wd : ∀ k : Fin 32, k0_chk1 (wd k) := by decide +kernel
theorem dev1_wd : ∀ k : Fin 32, k0_dev1 (wd k) = k.val := by decide +kernel
theorem chk2_wd : ∀ k : Fin 32, k0_chk2 (wd k) := by decide +kernel
theorem chk3_wd : ∀ k : Fin 32, k0_chk3 (wd k) := by decide +kernel
theorem chk4_wd : ∀ k : Fin 32, k0_chk4 (wd k) := by decide +kernel
theorem chk5_wd : ∀ k : Fin 32, k0_chk5 (wd k) := by decide +kernel
theorem chk6_wd : ∀ (i : Fin k0_t3_loop.trips) (k : Fin 32), k0_chk6 i (wd k) := by decide +kernel
theorem chk7_wd : ∀ k : Fin 32, k0_chk7 (wd k) := by decide +kernel
theorem chk8_wd : ∀ c k : Fin 32, k0_chk8 c (wd k) := by decide +kernel
theorem chk9_wd : ∀ (i : Fin k0_t3_loop.trips) (k : Fin 32), k0_chk9 i (wd k) := by decide +kernel
theorem chk10_wd : ∀ k : Fin 32, k0_chk10 (wd k) := by decide +kernel
theorem chk11_wd : ∀ c k : Fin 32, k0_chk11 c (wd k) := by decide +kernel
theorem chk12_wd : ∀ (i : Fin k0_t3_loop.trips) (k : Fin 32), k0_chk12 i (wd k) := by decide +kernel
theorem chk13_wd : ∀ k : Fin 32, k0_chk13 (wd k) := by decide +kernel
theorem chk14_wd : ∀ c k : Fin 32, k0_chk14 c (wd k) := by decide +kernel
theorem chk15_wd : ∀ (i : Fin k0_t3_loop.trips) (k : Fin 32), k0_chk15 i (wd k) := by decide +kernel
theorem chk16_wd : ∀ k : Fin 32, k0_chk16 (wd k) := by decide +kernel
theorem chk17_wd : ∀ c k : Fin 32, k0_chk17 c (wd k) := by decide +kernel
theorem chk18_wd : ∀ k : Fin 32, k0_chk18 (wd k) := by decide +kernel

theorem off2_wd : ∀ k : Fin 32, k0_off2 (wd k) = ![256 * k.val, 0] := by decide +kernel
theorem off3_wd : ∀ k : Fin 32, k0_off3 (wd k) = ![256 * k.val, 0] := by decide +kernel
theorem off4_wd : ∀ k : Fin 32, k0_off4 (wd k) = ![256 * k.val, 0] := by decide +kernel
theorem off13_wd : ∀ k : Fin 32, k0_off13 (wd k) = ![256 * k.val, 0] := by decide +kernel
theorem off15_wd : ∀ k : Fin 32, k0_off15 (wd k) = ![256 * k.val, 0] := by decide +kernel
theorem off20_wd : ∀ k : Fin 32, k0_off20 (wd k) = ![256 * k.val, 0] := by decide +kernel
theorem off22_wd : ∀ k : Fin 32, k0_off22 (wd k) = ![256 * k.val, 0] := by decide +kernel
theorem off27_wd : ∀ k : Fin 32, k0_off27 (wd k) = ![256 * k.val, 0] := by decide +kernel
theorem off29_wd : ∀ k : Fin 32, k0_off29 (wd k) = ![256 * k.val, 0] := by decide +kernel
theorem off34_wd : ∀ k : Fin 32, k0_off34 (wd k) = ![256 * k.val, 0] := by decide +kernel
theorem off36_wd : ∀ k : Fin 32, k0_off36 (wd k) = ![256 * k.val, 0] := by decide +kernel
theorem off5_dev : ∀ c : Fin 32, k0_off5 c = ![256 * c.val, 0] := by decide +kernel
theorem off6_dev : ∀ c : Fin 32, k0_off6 c = ![c.val, 0, 0] := by decide +kernel
theorem off8_wd : ∀ k : Fin 32, k0_off8 (wd k) = ![k.val] := by decide +kernel
theorem off9_dev : ∀ c : Fin 32, k0_off9 c = ![c.val] := by decide +kernel
theorem off10_dev : ∀ c : Fin 32, k0_off10 c = ![c.val, 0, 0] := by decide +kernel
theorem off11_wd : ∀ k : Fin 32, k0_off11 (wd k) = ![256 * k.val, 0] := by decide +kernel
theorem dev2_wd : ∀ k : Fin 32, k0_dev2 (wd k) = k.val := by decide +kernel
theorem off16_wd : ∀ k : Fin 32, k0_off16 (wd k) = ![k.val] := by decide +kernel
theorem off23_wd : ∀ k : Fin 32, k0_off23 (wd k) = ![k.val] := by decide +kernel
theorem off30_wd : ∀ k : Fin 32, k0_off30 (wd k) = ![k.val] := by decide +kernel
theorem off37_wd : ∀ k : Fin 32, k0_off37 (wd k) = ![k.val] := by decide +kernel
theorem off41_wd : ∀ k : Fin 32, k0_off41 (wd k) = ![k.val] := by decide +kernel
theorem off18_wd : ∀ k : Fin 32, k0_off18 (wd k) = ![k.val, 0, 0] := by decide +kernel
theorem off25_wd : ∀ k : Fin 32, k0_off25 (wd k) = ![k.val, 0, 0] := by decide +kernel
theorem off32_wd : ∀ k : Fin 32, k0_off32 (wd k) = ![k.val, 0, 0] := by decide +kernel
theorem off39_wd : ∀ k : Fin 32, k0_off39 (wd k) = ![k.val, 0, 0] := by decide +kernel
theorem cond2_iff : ∀ c k : Fin 32, k0_cond2 c (wd k) = 1#1 ↔ k ≠ c := by decide +kernel
theorem cond4_iff : ∀ c k : Fin 32, k0_cond4 c (wd k) = 1#1 ↔ k ≠ c := by decide +kernel
theorem cond6_iff : ∀ c k : Fin 32, k0_cond6 c (wd k) = 1#1 ↔ k ≠ c := by decide +kernel
theorem cond8_iff : ∀ c k : Fin 32, k0_cond8 c (wd k) = 1#1 ↔ k ≠ c := by decide +kernel

end Cert.KernelIdeal.A2A

end
-- ==== Proof.Slabs.lean ====
/-
  The pieces the body moves: the 32 row bands of the rounded input block and of the weight, the 32 landing slots and
  the 4 chunk buffers, each as the view the body names and as a set of elements; each whole buffer is its pieces held
  side by side; and what a copied or a loaded piece holds.
-/
module

public import proofs.«01_k».proof.Proof.Table
public import proofs.«01_k».proof.Proof.Gen.KernelIdeal.Skeleton
public import Idealize.ShloMosaic.Lib.ValueIdxCore
public import Idealize.ShloMosaic.Lib.ValueLayout

@[expose] public section

noncomputable section

namespace Cert.KernelIdeal.A2A

open Idealize.ShloMosaic Idealize.ShloMosaic.TcCoe
open Idealize.SL Idealize.SL.RA Idealize.SL.BI
open scoped Idealize.SL.BI
open Idealize.SL.BI.BIBase
open Idealize.ShloMosaic.ValueIdx
open Cert.KernelIdeal Cert.KernelIdeal.Gen

variable {F : FTy → Type} [FloatOps F]

/-! ## The rectangles and the views -/

theorem slot_inb (k : Fin 32) : ∀ a, (![k.val, 0, 0] : Fin 3 → ℕ) a + S1x256x256.size a ≤ S32x256x256.size a := by
  revert k; decide +kernel
theorem buf_inb (b : Fin 4) : ∀ a, (![b.val, 0, 0] : Fin 3 → ℕ) a + S1x256x4096.size a ≤ S4x256x4096.size a := by
  revert b; decide +kernel
theorem wrow_inb (k : Fin 32) : ∀ a, (![256 * k.val, 0] : Fin 2 → ℕ) a + S256x4096.size a ≤ S8192x4096.size a := by
  revert k; decide +kernel
theorem xrow_inb (k : Fin 32) : ∀ a, (![256 * k.val, 0] : Fin 2 → ℕ) a + S256x256.size a ≤ S8192x256.size a := by
  revert k; decide +kernel

abbrev slotR (k : Fin 32) : Rect S32x256x256 := Rect.unit ![k.val, 0, 0] S1x256x256.size (slot_inb k)
abbrev bufR (b : Fin 4) : Rect S4x256x4096 := Rect.unit ![b.val, 0, 0] S1x256x4096.size (buf_inb b)
abbrev wrowR (k : Fin 32) : Rect S8192x4096 := Rect.unit ![256 * k.val, 0] S256x4096.size (wrow_inb k)
abbrev xrowR (k : Fin 32) : Rect S8192x256 := Rect.unit ![256 * k.val, 0] S256x256.size (xrow_inb k)

abbrev xM : Memref sig .tc .vmem S8192x256 .f32 := Memref.whole cc0_stg1_0
abbrev oM : Memref sig .tc .vmem S256x4096 .f32 := Memref.whole cc0_stg2_0
abbrev xbM : Memref sig .tc .vmem S8192x256 .bf16 := Memref.whole cc0_scratch0
abbrev slM : Memref sig .tc .vmem S32x256x256 .bf16 := Memref.whole cc0_scratch1
abbrev bfM : Memref sig .tc .vmem S4x256x4096 .f32 := Memref.whole cc0_scratch2
abbrev wM : Memref sig .tc .hbm S8192x4096 .f32 := Memref.whole main_arg1
abbrev ordM : Memref sig .tc .smem S32 .i32 := Memref.whole cc0_stg0_0

/-- Slot `k`: where the block of device `k` lands. -/
abbrev slV (k : Fin 32) : Memref sig .tc .vmem S256x256 .bf16 :=
  (slM.slice (slotR k) (fun _ => rfl)).squeeze S256x256 squeezes_S1x256x256_S256x256
/-- Chunk buffer `b`. -/
abbrev bfV (b : Fin 4) : Memref sig .tc .vmem S256x4096 .f32 :=
  (bfM.slice (bufR b) (fun _ => rfl)).squeeze S256x4096 squeezes_S1x256x4096_S256x4096
/-- Row band `k` of the weight. -/
abbrev wrV (k : Fin 32) : Memref sig .tc .hbm S256x4096 .f32 := wM.slice (wrowR k) (fun _ => rfl)
/-- Row band `k` of the rounded input block. -/
abbrev xrV (k : Fin 32) : Memref sig .tc .vmem S256x256 .bf16 := xbM.slice (xrowR k) (fun _ => rfl)

/-! ## Their elements -/

theorem set_slV (k : Fin 32) : (slV k).view.set = (slotR k).set :=
  (View.set_reshape _ _).trans (View.set_slice_whole _ _)
theorem set_bfV (b : Fin 4) : (bfV b).view.set = (bufR b).set :=
  (View.set_reshape _ _).trans (View.set_slice_whole _ _)
theorem set_wrV (k : Fin 32) : (wrV k).view.set = (wrowR k).set := View.set_slice_whole _ _
theorem set_xrV (k : Fin 32) : (xrV k).view.set = (xrowR k).set := View.set_slice_whole _ _

theorem mem_slot {k : Fin 32} {i : S32x256x256.Idx} : i ∈ (slotR k).set ↔ (i 0).val = k.val := by
  rw [Rect.mem_set_unit]
  have h1 : (i 1).val < 256 := (i 1).isLt
  have h2 : (i 2).val < 256 := (i 2).isLt
  constructor
  · intro h
    have h0 := h 0
    simp [S1x256x256] at h0
    omega
  · intro h a
    match a with
    | ⟨0, _⟩ => simp [S1x256x256]; omega
    | ⟨1, _⟩ => simp [S1x256x256]; omega
    | ⟨2, _⟩ => simp [S1x256x256]; omega
theorem mem_buf {b : Fin 4} {i : S4x256x4096.Idx} : i ∈ (bufR b).set ↔ (i 0).val = b.val := by
  rw [Rect.mem_set_unit]
  have h1 : (i 1).val < 256 := (i 1).isLt
  have h2 : (i 2).val < 4096 := (i 2).isLt
  constructor
  · intro h
    have h0 := h 0
    simp [S1x256x4096] at h0
    omega
  · intro h a
    match a with
    | ⟨0, _⟩ => simp [S1x256x4096]; omega
    | ⟨1, _⟩ => simp [S1x256x4096]; omega
    | ⟨2, _⟩ => simp [S1x256x4096]; omega
theorem mem_wrow {k : Fin 32} {i : S8192x4096.Idx} : i ∈ (wrowR k).set ↔ (i 0).val / 256 = k.val := by
  rw [Rect.mem_set_unit]
  have h1 : (i 1).val < 4096 := (i 1).isLt
  constructor
  · intro h
    have h0 := h 0
    simp [S256x4096] at h0
    omega
  · intro h a
    match a with
    | ⟨0, _⟩ => simp [S256x4096]; omega
    | ⟨1, _⟩ => simp [S256x4096]; omega
theorem mem_xrow {k : Fin 32} {i : S8192x256.Idx} : i ∈ (xrowR k).set ↔ (i 0).val / 256 = k.val := by
  rw [Rect.mem_set_unit]
  have h1 : (i 1).val < 256 := (i 1).isLt
  constructor
  · intro h
    have h0 := h 0
    simp [S256x256] at h0
    omega
  · intro h a
    match a with
    | ⟨0, _⟩ => simp [S256x256]; omega
    | ⟨1, _⟩ => simp [S256x256]; omega

theorem wkey_lt (i : S8192x4096.Idx) : (i 0).val / 256 < 32 := by
  have : (i 0).val < 8192 := (i 0).isLt
  omega
theorem xkey_lt (i : S8192x256.Idx) : (i 0).val / 256 < 32 := by
  have : (i 0).val < 8192 := (i 0).isLt
  omega

/-! ## A whole buffer is its pieces side by side -/

section Split

variable {Ix : Type} [DecidableEq Ix] {U : Type} [URA U] {Lvl : Type} [Preorder Lvl]
local notation "𝕄'" => MT nD τ sig Ix (Elt F) ℕ U Lvl

/-- A whole buffer is the family of pieces, when each element is in the piece a key names. -/
theorem split_by {n : ℕ} (ℓ : Loc nD τ sig) (K : Fin n → Finset (Idx ℓ)) (key : Idx ℓ → ℕ) (hn : ∀ i, key i < n)
    (hK : ∀ k i, i ∈ K k ↔ key i = k.val) (q : PosShare TreeShare) (f : Buf (Elt F) ℓ) :
    (ℓ ↦{q} f : sProp 𝕄') = bigSep Finset.univ fun k : Fin n => (ℓ ↦[K k]{q} f : sProp 𝕄') := by
  rw [← pointsTo_biUnion]
  · congr 1
    ext i
    simp only [Finset.mem_biUnion, Finset.mem_univ, true_and, true_iff]
    exact ⟨⟨key i, hn i⟩, (hK _ _).2 rfl⟩
  · intro t _ t' _ hne
    rw [Finset.disjoint_left]
    intro i hi hi'
    exact hne (Fin.ext (((hK _ _).1 hi).symm.trans ((hK _ _).1 hi')))

variable (c : Dev nD) (q : PosShare TreeShare)

/-- Slot `k` of device `c` at contents `f`. -/
abbrev slPts (c : Dev nD) (k : Fin 32) (f : Buf (Elt F) ((c : Thread nD τ).loc cc0_scratch1)) : sProp 𝕄' :=
  (slV k).view.loc (c : Thread nD τ) ↦[(slV k).view.set]{fullShare} f
/-- Chunk buffer `b` of device `c` at contents `f`. -/
abbrev bfPts (c : Dev nD) (b : Fin 4) (f : Buf (Elt F) ((c : Thread nD τ).loc cc0_scratch2)) : sProp 𝕄' :=
  (bfV b).view.loc (c : Thread nD τ) ↦[(bfV b).view.set]{fullShare} f
/-- Row band `k` of device `c`'s weight. -/
abbrev wrPts (c : Dev nD) (k : Fin 32) (f : Buf (Elt F) ((c : Thread nD τ).loc main_arg1)) : sProp 𝕄' :=
  (wrV k).view.loc (c : Thread nD τ) ↦[(wrV k).view.set]{fullShare} f
/-- Row band `k` of device `c`'s rounded input block. -/
abbrev xrPts (c : Dev nD) (k : Fin 32) (f : Buf (Elt F) ((c : Thread nD τ).loc cc0_scratch0)) : sProp 𝕄' :=
  (xrV k).view.loc (c : Thread nD τ) ↦[(xrV k).view.set]{fullShare} f

theorem split_slots (f : Buf (Elt F) ((c : Thread nD τ).loc cc0_scratch1)) :
    ((c : Thread nD τ).loc cc0_scratch1 ↦{fullShare} f : sProp 𝕄') = bigSep Finset.univ fun k : Fin 32 => slPts c k f :=
  split_by ((c : Thread nD τ).loc cc0_scratch1) (fun k : Fin 32 => (slV k).view.set) (fun i : S32x256x256.Idx => (i 0).val) (fun i => (i (0 : Fin 3)).isLt)
    (fun k i => by rw [set_slV]; exact mem_slot) fullShare f
theorem split_bufs (f : Buf (Elt F) ((c : Thread nD τ).loc cc0_scratch2)) :
    ((c : Thread nD τ).loc cc0_scratch2 ↦{fullShare} f : sProp 𝕄') = bigSep Finset.univ fun k : Fin 4 => bfPts c k f :=
  split_by ((c : Thread nD τ).loc cc0_scratch2) (fun k : Fin 4 => (bfV k).view.set) (fun i : S4x256x4096.Idx => (i 0).val) (fun i => (i (0 : Fin 3)).isLt)
    (fun k i => by rw [set_bfV]; exact mem_buf) fullShare f
theorem split_wrows (f : Buf (Elt F) ((c : Thread nD τ).loc main_arg1)) :
    ((c : Thread nD τ).loc main_arg1 ↦{fullShare} f : sProp 𝕄') = bigSep Finset.univ fun k : Fin 32 => wrPts c k f :=
  split_by ((c : Thread nD τ).loc main_arg1) (fun k : Fin 32 => (wrV k).view.set) (fun i : S8192x4096.Idx => (i 0).val / 256) wkey_lt
    (fun k i => by rw [set_wrV]; exact mem_wrow) fullShare f
theorem split_xrows (f : Buf (Elt F) ((c : Thread nD τ).loc cc0_scratch0)) :
    ((c : Thread nD τ).loc cc0_scratch0 ↦{fullShare} f : sProp 𝕄') = bigSep Finset.univ fun k : Fin 32 => xrPts c k f :=
  split_by ((c : Thread nD τ).loc cc0_scratch0) (fun k : Fin 32 => (xrV k).view.set) (fun i : S8192x256.Idx => (i 0).val / 256) xkey_lt
    (fun k i => by rw [set_xrV]; exact mem_xrow) fullShare f

end Split

/-! ## Contents -/

/-- Row `r` of band `k` of 32 bands of 256 rows. -/
def band (k : Fin 32) (r : Fin 256) : Fin 8192 := ⟨256 * k.val + r.val, by omega⟩

/-- Band `d` of a rounded block, as a slot is loaded. -/
def slotOf (xb : S8192x256.Idx → F .bf16) (d : Fin 32) : S1x256x256.Idx → F .bf16 :=
  fun i => xb (ix2 (band d (i 1)) (i 2))
/-- Band `k` of a weight, as a chunk buffer is loaded. -/
def chunkOf (w : S8192x4096.Idx → F .f32) (k : Fin 32) : S1x256x4096.Idx → F .f32 :=
  fun i => w (ix2 (band k (i 1)) (i 2))
/-- All the slots of device `d`, once every block has landed: slot `k` holds band `d` of device `k`'s rounded block. -/
def slotsAll (xb : Fin 32 → S8192x256.Idx → F .bf16) (d : Fin 32) : S32x256x256.Idx → F .bf16 :=
  fun i => xb (i 0) (ix2 (band d (i 1)) (i 2))
/-- All chunk buffers at band `k` of a weight. -/
def bufAt (w : S8192x4096.Idx → F .f32) (k : Fin 32) : S4x256x4096.Idx → F .f32 :=
  fun i => w (ix2 (band k (i 1)) (i 2))

theorem emb_slot (k : Fin 32) (x : S1x256x256.Idx) : (slotR k).emb x = ix3 k (x 1) (x 2) := by
  have h0 : (x 0).val < 1 := (x 0).isLt
  funext a
  apply Fin.ext
  rw [Rect.emb_apply]
  match a with
  | ⟨0, _⟩ => simp; omega
  | ⟨1, _⟩ => simp
  | ⟨2, _⟩ => simp
theorem emb_buf (k : Fin 4) (x : S1x256x4096.Idx) : (bufR k).emb x = ix3 k (x 1) (x 2) := by
  have h0 : (x 0).val < 1 := (x 0).isLt
  funext a
  apply Fin.ext
  rw [Rect.emb_apply]
  match a with
  | ⟨0, _⟩ => simp; omega
  | ⟨1, _⟩ => simp
  | ⟨2, _⟩ => simp
theorem emb_wrow (k : Fin 32) (x : S256x4096.Idx) : (wrowR k).emb x = ix2 (band k (x 0)) (x 1) := by
  funext a
  apply Fin.ext
  rw [Rect.emb_apply]
  match a with
  | ⟨0, _⟩ => simp [band]
  | ⟨1, _⟩ => simp
theorem emb_xrow (k : Fin 32) (x : S256x256.Idx) : (xrowR k).emb x = ix2 (band k (x 0)) (x 1) := by
  funext a
  apply Fin.ext
  rw [Rect.emb_apply]
  match a with
  | ⟨0, _⟩ => simp [band]
  | ⟨1, _⟩ => simp

theorem emb_slV (k : Fin 32) (y : S256x256.Idx) : (slV k).view.emb y = ix3 k (y 0) (y 1) := by
  show (slotR k).emb (Shape.reshapeEquiv _ y) = _
  rw [emb_slot, Shape.reshapeEquiv_cons_one (n := 2) (d := ![256, 256])]
  rfl
theorem emb_bfV (k : Fin 4) (y : S256x4096.Idx) : (bfV k).view.emb y = ix3 k (y 0) (y 1) := by
  show (bufR k).emb (Shape.reshapeEquiv _ y) = _
  rw [emb_buf, Shape.reshapeEquiv_cons_one (n := 2) (d := ![256, 4096])]
  rfl
theorem emb_wrV (k : Fin 32) (y : S256x4096.Idx) : (wrV k).view.emb y = ix2 (band k (y 0)) (y 1) := emb_wrow k y
theorem emb_xrV (k : Fin 32) (y : S256x256.Idx) : (xrV k).view.emb y = ix2 (band k (y 0)) (y 1) := emb_xrow k y

/-! ## What a landed piece holds -/

theorem slot_landed (xb : Fin 32 → S8192x256.Idx → F .bf16) (c d : Fin 32) (f : S32x256x256.Idx → F .bf16) :
    ∀ i ∈ (slV c).view.set, (slV c).view.write (Elt F) f ((xrV d).view.read (Elt F) (xb c)) Finset.univ i = slotsAll xb d i := by
  intro i hi
  obtain ⟨y, -, rfl⟩ := Finset.mem_map.1 hi
  rw [View.write_emb_of_mem _ _ (Finset.mem_univ y), View.read_apply, emb_slV, emb_xrV]
  rfl
theorem buf_landed (w : S8192x4096.Idx → F .f32) (k : Fin 32) (b : Fin 4) (f : S4x256x4096.Idx → F .f32) :
    ∀ i ∈ (bfV b).view.set, (bfV b).view.write (Elt F) f ((wrV k).view.read (Elt F) w) Finset.univ i = bufAt w k i := by
  intro i hi
  obtain ⟨y, -, rfl⟩ := Finset.mem_map.1 hi
  rw [View.write_emb_of_mem _ _ (Finset.mem_univ y), View.read_apply, emb_bfV, emb_wrV]
  rfl
/-- A device's own slot after it stores its own band. -/
theorem slot_stored (xb : Fin 32 → S8192x256.Idx → F .bf16) (c : Fin 32) (f : S32x256x256.Idx → F .bf16) :
    ∀ i ∈ (slV c).view.set, (slM.access (slotR c)).write (Elt F) f (slotOf (xb c) c) Finset.univ i = slotsAll xb c i := by
  intro i hi
  obtain ⟨y, -, rfl⟩ := Finset.mem_map.1 hi
  have h : (slV c).view.emb y = (slM.access (slotR c)).emb (ix3 (0 : Fin 1) (y 0) (y 1)) :=
    (emb_slV c y).trans (emb_slot c (ix3 (0 : Fin 1) (y 0) (y 1))).symm
  rw [h]
  refine (View.write_emb_of_mem _ _ (Finset.mem_univ _)).trans ?_
  refine Eq.trans ?_ (congrArg (slotsAll xb c) h)
  rw [emb_slV]
  rfl

/-! ## What a loaded piece holds -/

theorem slot_load (xb : Fin 32 → S8192x256.Idx → F .bf16) (d k : Fin 32) :
    (slM.access (slotR k)).read (Elt F) (slotsAll xb d) = slotOf (xb k) d := by
  funext x
  show slotsAll xb d ((slotR k).emb x) = _
  rw [emb_slot]
  rfl
theorem buf_load (w : S8192x4096.Idx → F .f32) (k : Fin 32) (b : Fin 4) :
    (bfM.access (bufR b)).read (Elt F) (bufAt w k) = chunkOf w k := by
  funext x
  show bufAt w k ((bufR b).emb x) = _
  rw [emb_buf]
  rfl
/-- A device's own band, loaded and given the slot's shape. -/
theorem own_load (xb : S8192x256.Idx → F .bf16) (c : Fin 32) :
    k0_pay5 ((xbM.access (xrowR c)).read (Elt F) xb) = slotOf xb c := by
  funext x
  unfold k0_pay5
  refine (shapeCast_addUnit_apply (n := 2) ![256, 256] _ shapeCasts_S256x256_S1x256x256 x).trans ?_
  exact congrArg xb (emb_xrow c (fun a : Fin 2 => x a.succ))

end Cert.KernelIdeal.A2A

end
-- ==== Proof.Protocol.lean ====
/-
  Who signals, copies to and waits on which semaphore, how much, in which order, and what is handed over.

  Every device signals every other device's barrier semaphore once: with the unit it hands over its own slot for that
  device's block. It waits for its 31 units, and so holds, on every other device, the slot its block goes to. It then
  copies band d of its rounded block into its slot on device d: the send semaphore kept for d gives the band back, the
  receive semaphore on d kept for the sender gives d the slot at the sender's band. Beside that each device copies the
  weight's bands, in its own order, into four chunk buffers: the semaphore of a buffer serves eight copies in turn.
-/
module

public import proofs.«01_k».proof.Proof.Slabs
public import Idealize.ShloMosaic.Lib.Rounds
public import Idealize.ShloMosaic.Lib.Tactic
public import Idealize.ShloMosaic.Lib.Pipeline.Regions
public import Idealize.ShloMosaic.Lib.Pipeline.Kit
public import Idealize.ShloMosaic.Lib.Pipeline.RegionTalk
public import Idealize.ShloMosaic.Harness.Basic

@[expose] public section

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

/-! ## The resource algebra -/

abbrev UT : Type := URounds (GSem nD τ sig) (Fin 32)
abbrev UU : Type := UR sig nD τ × UT

local notation "𝕄" => MT nD τ sig Unit (Elt F) ℕ UU ℕ

abbrev EP : Emb (UR sig nD τ) (MT nD τ sig Unit (Elt F) ℕ UU ℕ) := embL
abbrev ER : Emb UT (MT nD τ sig Unit (Elt F) ℕ UU ℕ) := embR

/-! ## The semaphores -/

abbrev sendS (j : Fin 32) : DmaSem sig := ⟨3 + j.val, by have := j.isLt; show 3 + j.val < 71; omega⟩
abbrev recvS (j : Fin 32) : DmaSem sig := ⟨35 + j.val, by have := j.isLt; show 35 + j.val < 71; omega⟩
abbrev wS (b : Fin 4) : DmaSem sig := ⟨67 + b.val, by have := b.isLt; show 67 + b.val < 71; omega⟩

abbrev barCell (c : Dev nD) : GSem nD τ sig := ((c : Thread nD τ), .reg barrier0)
abbrev sendCell (c : Dev nD) (j : Fin 32) : GSem nD τ sig := ((c : Thread nD τ), .dma (sendS j))
abbrev recvCell (c : Dev nD) (j : Fin 32) : GSem nD τ sig := ((c : Thread nD τ), .dma (recvS j))
abbrev wCell (c : Dev nD) (b : Fin 4) : GSem nD τ sig := ((c : Thread nD τ), .dma (wS b))

/-- The kernel's own semaphores: a send and a receive one per device, one per chunk buffer. -/
abbrev OK : Type := Fin 32 ⊕ Fin 32 ⊕ Fin 4
abbrev osem : OK → SemLoc sig
  | .inl j => .dma (sendS j)
  | .inr (.inl j) => .dma (recvS j)
  | .inr (.inr b) => .dma (wS b)

inductive Role where
  | bar | send (j : Fin 32) | recv (j : Fin 32) | chunk (b : Fin 4) | other

/-- What a semaphore is for. -/
def role : SemLoc sig → Role
  | .reg _ => .bar
  | .dma k =>
    if h : 3 ≤ k.val ∧ k.val < 35 then .send ⟨k.val - 3, by omega⟩
    else if h : 35 ≤ k.val ∧ k.val < 67 then .recv ⟨k.val - 35, by omega⟩
    else if h : 67 ≤ k.val ∧ k.val < 71 then .chunk ⟨k.val - 67, by omega⟩
    else .other

theorem role_bar : role (.reg barrier0) = .bar := rfl
theorem role_send (j : Fin 32) : role (.dma (sendS j)) = .send j := by
  have hj := j.isLt
  unfold role
  dsimp only
  rw [dif_pos ⟨by omega, by omega⟩]
  congr 1
  apply Fin.ext
  dsimp only
  omega
theorem role_recv (j : Fin 32) : role (.dma (recvS j)) = .recv j := by
  have hj := j.isLt
  unfold role
  dsimp only
  rw [dif_neg (fun h => by omega), dif_pos ⟨by omega, by omega⟩]
  congr 1
  apply Fin.ext
  dsimp only
  omega
theorem role_chunk (b : Fin 4) : role (.dma (wS b)) = .chunk b := by
  have hj := b.isLt
  unfold role
  dsimp only
  rw [dif_neg (fun h => by omega), dif_neg (fun h => by omega), dif_pos ⟨by omega, by omega⟩]
  congr 1
  apply Fin.ext
  dsimp only
  omega

/-- The credit of one block's copy, and of one weight band's. -/
abbrev NB : ℕ := (slV 0).view.dmaCredit
abbrev NW : ℕ := (bfV 0).view.dmaCredit
theorem NB_pos : 0 < NB := View.dmaCredit_pos _ (by decide)
theorem NW_pos : 0 < NW := View.dmaCredit_pos _ (by decide)

/-! ## Contents -/

/-- Each device's rounded input block. -/
def xbOf (X : Dev nD → S8192x256.Idx → F .f32) (c : Fin 32) : S8192x256.Idx → F .bf16 := k0_pay4 (X c)

variable (X : Dev nD → S8192x256.Idx → F .f32) (W : Dev nD → S8192x4096.Idx → F .f32)

/-! ## The schedule -/

/-- Paid to the barrier of device `c` by device `d`: `d`'s slot for `c`'s block, and that `d`'s receive semaphore for it is open. -/
def barPay (c d : Fin 32) : sProp 𝕄 := iprop((∃ f, slPts d c f) ∗ reached ER (recvCell d c) 0)
/-- Paid by chunk copy `s` of device `c`: the chunk buffer at the weight's band, and the band back. -/
def chunkPay (c : Fin 32) (b : Fin 4) (s : ℕ) : sProp 𝕄 :=
  iprop(bfPts c b (bufAt (W c) (ord c s)) ∗ wrPts c (ord c s) (W c))

def talkDuties (g : GSem nD τ sig) (r : ℕ) : Finset (Fin 32) :=
  if g.1.2 = .tc then
    match role g.2 with
    | .bar => if r = 0 then Finset.univ.erase g.1.1 else ∅
    | .send j => if r = 0 ∧ j ≠ g.1.1 then {0} else ∅
    | .recv j => if r = 0 ∧ j ≠ g.1.1 then {0} else ∅
    | .chunk _ => if r < 8 then {0} else ∅
    | .other => ∅
  else ∅
def talkAmount (g : GSem nD τ sig) : ℕ :=
  match role g.2 with
  | .bar => 1
  | .chunk _ => NW
  | _ => NB
def talkPayload (g : GSem nD τ sig) (r : ℕ) (d : Fin 32) : sProp 𝕄 :=
  match role g.2 with
  | .bar => barPay g.1.1 d
  | .send j => xrPts g.1.1 j (xbOf X g.1.1)
  | .recv j => slPts g.1.1 j (slotsAll (xbOf X) g.1.1)
  | .chunk b => chunkPay W g.1.1 b (4 * r + b.val)
  | .other => iprop(emp)

def talkRd : Rounds.Schedule (GSem nD τ sig) (Fin 32) 𝕄 where
  duties := talkDuties
  unitless _ := False
  amount g _ _ := talkAmount g
  payload := talkPayload X W
  amount_pos g _ _ _ := by
    unfold talkAmount
    split
    · exact Nat.one_pos
    · exact NW_pos
    · exact NB_pos

instance talkRd_payload_storable (g : GSem nD τ sig) (r : ℕ) (d : Fin 32) :
    BI.Storable (upEmb : UEmb _ 𝕄) ((talkRd X W).payload g r d) := by
  show BI.Storable upEmb (talkPayload X W g r d)
  unfold talkPayload barPay chunkPay
  split <;> infer_instance

section Sched

variable (c : Fin 32)

theorem duties_bar : (talkRd X W).duties (barCell c) 0 = Finset.univ.erase c := by
  dsimp only [talkRd, talkDuties]; rw [if_pos rfl]; rw [role_bar]; exact if_pos rfl
theorem duties_send {j : Fin 32} (h : j ≠ c) : (talkRd X W).duties (sendCell c j) 0 = {0} := by
  dsimp only [talkRd, talkDuties]; rw [if_pos rfl]; rw [role_send]; exact if_pos ⟨rfl, h⟩
theorem duties_recv {j : Fin 32} (h : j ≠ c) : (talkRd X W).duties (recvCell c j) 0 = {0} := by
  dsimp only [talkRd, talkDuties]; rw [if_pos rfl]; rw [role_recv]; exact if_pos ⟨rfl, h⟩
theorem duties_chunk (b : Fin 4) {r : ℕ} (h : r < 8) : (talkRd X W).duties (wCell c b) r = {0} := by
  dsimp only [talkRd, talkDuties]; rw [if_pos rfl]; rw [role_chunk]; exact if_pos h
theorem duties_bar_later : ∀ r, 1 ≤ r → (talkRd X W).duties (barCell c) r = ∅ := fun r hr => by
  dsimp only [talkRd, talkDuties]; rw [if_pos rfl]; rw [role_bar]; exact if_neg (by omega)
theorem duties_send_later (j : Fin 32) : ∀ r, 1 ≤ r → (talkRd X W).duties (sendCell c j) r = ∅ := fun r hr => by
  dsimp only [talkRd, talkDuties]; rw [if_pos rfl]; rw [role_send]; exact if_neg (by omega)
theorem duties_recv_later (j : Fin 32) : ∀ r, 1 ≤ r → (talkRd X W).duties (recvCell c j) r = ∅ := fun r hr => by
  dsimp only [talkRd, talkDuties]; rw [if_pos rfl]; rw [role_recv]; exact if_neg (by omega)
theorem duties_send_own : ∀ r, 0 ≤ r → (talkRd X W).duties (sendCell c c) r = ∅ := fun r _ => by
  dsimp only [talkRd, talkDuties]; rw [if_pos rfl]; rw [role_send]; exact if_neg (fun h => h.2 rfl)
theorem duties_recv_own : ∀ r, 0 ≤ r → (talkRd X W).duties (recvCell c c) r = ∅ := fun r _ => by
  dsimp only [talkRd, talkDuties]; rw [if_pos rfl]; rw [role_recv]; exact if_neg (fun h => h.2 rfl)
theorem duties_chunk_later (b : Fin 4) : ∀ r, 8 ≤ r → (talkRd X W).duties (wCell c b) r = ∅ := fun r hr => by
  dsimp only [talkRd, talkDuties]; rw [if_pos rfl]; rw [role_chunk]; exact if_neg (by omega)

theorem amount_bar (r : ℕ) (d : Fin 32) : (talkRd X W).amount (barCell c) r d = 1 := by
  dsimp only [talkRd, talkAmount]; rw [role_bar]
theorem amount_send (j : Fin 32) (r : ℕ) (d : Fin 32) : (talkRd X W).amount (sendCell c j) r d = NB := by
  dsimp only [talkRd, talkAmount]; rw [role_send]
theorem amount_recv (j : Fin 32) (r : ℕ) (d : Fin 32) : (talkRd X W).amount (recvCell c j) r d = NB := by
  dsimp only [talkRd, talkAmount]; rw [role_recv]
theorem amount_chunk (b : Fin 4) (r : ℕ) (d : Fin 32) : (talkRd X W).amount (wCell c b) r d = NW := by
  dsimp only [talkRd, talkAmount]; rw [role_chunk]

theorem payload_bar (r : ℕ) (d : Fin 32) : (talkRd X W).payload (barCell c) r d = barPay c d := by
  dsimp only [talkRd, talkPayload]; rw [role_bar]
theorem payload_send (j : Fin 32) (r : ℕ) (d : Fin 32) : (talkRd X W).payload (sendCell c j) r d = xrPts c j (xbOf X c) := by
  dsimp only [talkRd, talkPayload]; rw [role_send]
theorem payload_recv (j : Fin 32) (r : ℕ) (d : Fin 32) : (talkRd X W).payload (recvCell c j) r d = slPts c j (slotsAll (xbOf X) c) := by
  dsimp only [talkRd, talkPayload]; rw [role_recv]
theorem payload_chunk (b : Fin 4) (r : ℕ) (d : Fin 32) : (talkRd X W).payload (wCell c b) r d = chunkPay W c b (4 * r + b.val) := by
  dsimp only [talkRd, talkPayload]; rw [role_chunk]

theorem expect_bar : (talkRd X W).expect (barCell c) 0 = 31 := by
  unfold Schedule.expect Schedule.amountOf
  rw [duties_bar, Finset.sum_congr rfl fun d _ => amount_bar X W c 0 d, Finset.sum_const, Finset.card_erase_of_mem (Finset.mem_univ _)]
  simp
theorem expect_send {j : Fin 32} (h : j ≠ c) : (talkRd X W).expect (sendCell c j) 0 = NB := by
  unfold Schedule.expect Schedule.amountOf; rw [duties_send X W c h, Finset.sum_singleton, amount_send]
theorem expect_recv {j : Fin 32} (h : j ≠ c) : (talkRd X W).expect (recvCell c j) 0 = NB := by
  unfold Schedule.expect Schedule.amountOf; rw [duties_recv X W c h, Finset.sum_singleton, amount_recv]
theorem expect_chunk (b : Fin 4) {r : ℕ} (h : r < 8) : (talkRd X W).expect (wCell c b) r = NW := by
  unfold Schedule.expect Schedule.amountOf; rw [duties_chunk X W c b h, Finset.sum_singleton, amount_chunk]

theorem rest_bar : bigSep ((talkRd X W).duties (barCell c) 0 \ ∅) (fun u => (talkRd X W).payload (barCell c) 0 u)
    = bigSep (Finset.univ.erase c) fun d => (barPay c d : sProp 𝕄) := by
  rw [Finset.sdiff_empty, duties_bar]; exact bigSep_congr fun d _ => payload_bar X W c 0 d
theorem rest_send {j : Fin 32} (h : j ≠ c) : bigSep ((talkRd X W).duties (sendCell c j) 0 \ ∅) (fun u => (talkRd X W).payload (sendCell c j) 0 u)
    = xrPts c j (xbOf X c) := by
  rw [Finset.sdiff_empty, duties_send X W c h, bigSep_singleton, payload_send]
theorem rest_recv {j : Fin 32} (h : j ≠ c) : bigSep ((talkRd X W).duties (recvCell c j) 0 \ ∅) (fun u => (talkRd X W).payload (recvCell c j) 0 u)
    = slPts c j (slotsAll (xbOf X) c) := by
  rw [Finset.sdiff_empty, duties_recv X W c h, bigSep_singleton, payload_recv]
theorem rest_chunk (b : Fin 4) {r : ℕ} (h : r < 8) : bigSep ((talkRd X W).duties (wCell c b) r \ ∅) (fun u => (talkRd X W).payload (wCell c b) r u)
    = chunkPay W c b (4 * r + b.val) := by
  rw [Finset.sdiff_empty, duties_chunk X W c b h, bigSep_singleton, payload_chunk]

end Sched

/-! ## What each device owes at launch, and the levels of the waits -/

theorem Ico_pop {a b : ℕ} (h : a < b) : Finset.Ico a b = insert a (Finset.Ico (a + 1) b) := by
  ext i; simp only [Finset.mem_Ico, Finset.mem_insert]; omega
theorem Ico_pop_notMem (a b : ℕ) : a ∉ Finset.Ico (a + 1) b := by
  simp only [Finset.mem_Ico]; omega
theorem Ico_push {a b : ℕ} (h : a ≤ b) : Finset.Ico a (b + 1) = insert b (Finset.Ico a b) := by
  ext i; simp only [Finset.mem_Ico, Finset.mem_insert]; omega
theorem Ico_push_notMem (a b : ℕ) : b ∉ Finset.Ico a b := by
  simp only [Finset.mem_Ico]; omega

/-- The receive credits owed from step `a` on, and the barrier units. -/
def RO (c : Fin 32) (a : ℕ) : CellTallies nD τ sig Unit := ∑ j ∈ Finset.Ico a 32, tallyAt (recvCell (ord c j) c) () NB
def BO (c : Fin 32) (a : ℕ) : CellTallies nD τ sig Unit := ∑ j ∈ Finset.Ico a 32, tallyAt (barCell (ord c j)) () 1
def O₀ (c : Dev nD) : CellTallies nD τ sig Unit := RO c 1 + BO c 1

theorem RO_succ (c : Fin 32) {a : ℕ} (h : a < 32) : RO c a = RO c (a + 1) + tallyAt (recvCell (ord c a) c) () NB := by
  unfold RO; rw [Ico_pop h, Finset.sum_insert (Ico_pop_notMem a 32), add_comm]
theorem BO_succ (c : Fin 32) {a : ℕ} (h : a < 32) : BO c a = BO c (a + 1) + tallyAt (barCell (ord c a)) () 1 := by
  unfold BO; rw [Ico_pop h, Finset.sum_insert (Ico_pop_notMem a 32), add_comm]
theorem RO_end (c : Fin 32) : RO c 32 = 0 := by unfold RO; rw [Finset.Ico_self, Finset.sum_empty]
theorem BO_end (c : Fin 32) : BO c 32 = 0 := by unfold BO; rw [Finset.Ico_self, Finset.sum_empty]

theorem sum_tally_apply (S : Finset ℕ) (f : ℕ → GSem nD τ sig) (n : ℕ) (g : GSem nD τ sig) (u : Unit) :
    (∑ j ∈ S, (tallyAt (f j) () n : CellTallies nD τ sig Unit)) g u = ∑ j ∈ S, if g = f j then n else 0 := by
  induction S using Finset.induction_on with
  | empty => rfl
  | insert a s ha ih =>
    rw [Finset.sum_insert ha, Finset.sum_insert ha, Pi.add_apply, Finsupp.add_apply, ih, tallyAt_apply]
    simp

theorem RO_apply (c : Fin 32) (a : ℕ) (g : GSem nD τ sig) (u : Unit) : RO c a g u = ∑ j ∈ Finset.Ico a 32, if g = recvCell (ord c j) c then NB else 0 :=
  sum_tally_apply _ (fun j => recvCell (ord c j) c) _ _ _
theorem BO_apply (c : Fin 32) (a : ℕ) (g : GSem nD τ sig) (u : Unit) : BO c a g u = ∑ j ∈ Finset.Ico a 32, if g = barCell (ord c j) then 1 else 0 :=
  sum_tally_apply _ (fun j => barCell (ord c j)) _ _ _

theorem RO_pos {c : Fin 32} {a : ℕ} {g : GSem nD τ sig} {u : Unit} (h : 0 < RO c a g u) : ∃ d, g = recvCell d c := by
  rw [RO_apply] at h
  obtain ⟨j, -, hj⟩ := Finset.exists_ne_zero_of_sum_ne_zero h.ne'
  by_cases e : g = recvCell (ord c j) c
  · exact ⟨_, e⟩
  · rw [if_neg e] at hj; exact absurd rfl hj
theorem BO_pos {c : Fin 32} {a : ℕ} {g : GSem nD τ sig} {u : Unit} (h : 0 < BO c a g u) : ∃ d, g = barCell d := by
  rw [BO_apply] at h
  obtain ⟨j, -, hj⟩ := Finset.exists_ne_zero_of_sum_ne_zero h.ne'
  by_cases e : g = barCell (ord c j)
  · exact ⟨_, e⟩
  · rw [if_neg e] at hj; exact absurd rfl hj

def L (g : GSem nD τ sig) : Finset Unit := if g.1.2 = .tc then {()} else ∅
/-- barrier at 1, receive semaphores at 2, the rest at 0. -/
def lv (g : GSem nD τ sig) (_ : Unit) : ℕ := match role g.2 with
  | .bar => 1
  | .recv _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Fin 32) (u : Unit) : lv (barCell c) u = 1 := by unfold lv; dsimp only; rw [role_bar]
theorem lv_recv (c j : Fin 32) (u : Unit) : lv (recvCell c j) u = 2 := by unfold lv; dsimp only; rw [role_recv]

theorem mayWait_bar (c : Fin 32) :
    (levAts L lv : sProp 𝕄) ⊢ MayWait (c : Thread nD τ) (.reg barrier0) () (RO c 1) :=
  MayOwe.of_cut (L := L) (lev := lv) 1 (fun p hp => by rw [Finset.mem_singleton.mp hp, L_tc]; exact Finset.mem_singleton_self _)
    (fun g u hg => by obtain ⟨d, rfl⟩ := RO_pos hg; rw [L_tc]; exact Finset.mem_singleton_self _)
    (fun p hp => by rw [Finset.mem_singleton.mp hp]; exact (lv_bar c ()).le)
    (fun g u hg => by obtain ⟨d, rfl⟩ := RO_pos hg; rw [lv_recv]; decide)

/-! ## The ghost state -/

def barEmb : Dev nD ↪ GSem nD τ sig := ⟨fun c => barCell c, fun _ _ h => congrArg (fun g : GSem nD τ sig => g.1.1) h⟩
theorem osem_inj : Function.Injective osem := by
  rintro (j | j | b) (j' | j' | b') h <;>
    simp only [osem, sendS, recvS, wS, SemLoc.dma.injEq, Fin.mk.injEq] at h
  all_goals first
    | (exfalso; omega)
    | (congr 1; apply Fin.ext; omega)
    | (congr 2; apply Fin.ext; omega)
theorem osem_ne_bar (k : OK) : osem k ≠ .reg barrier0 := by
  rcases k with j | j | b <;> exact fun h => by cases h
def scEmb : Dev nD × OK ↪ GSem nD τ sig :=
  ⟨fun ck => ((ck.1 : Thread nD τ), osem ck.2), fun _ _ h =>
    Prod.ext (congrArg (fun g : GSem nD τ sig => g.1.1) h) (osem_inj (congrArg Prod.snd h))⟩

/-- The barrier cells; the kernel's own cells. -/
abbrev barCells : Finset (GSem nD τ sig) := Finset.univ.map barEmb
abbrev scCells : Finset (GSem nD τ sig) := Finset.univ.map scEmb

theorem bar_mem (c : Dev nD) : barCell c ∈ (barCells ∪ scCells : Finset (GSem nD τ sig)) :=
  Finset.mem_union_left _ (Finset.mem_map_of_mem barEmb (Finset.mem_univ c))
theorem own_mem (c : Dev nD) (k : OK) : ((c : Thread nD τ), osem k) ∈ (barCells ∪ scCells : Finset (GSem nD τ sig)) :=
  Finset.mem_union_right _ (Finset.mem_map_of_mem scEmb (Finset.mem_univ (c, k)))

variable (K : GSem nD τ sig → ℕ)

/-- All the invariants under one map of names, and that round 0 of every barrier cell is reached. -/
def records : sProp 𝕄 :=
  iprop((bigSep (barCells ∪ scCells) fun g => cellInv ER (talkRd X W) (K g) g) ∗ bigSep barCells fun g => reached ER g 0)

instance records_persistent : BI.Persistent (records X W K) := by unfold records; infer_instance

theorem inv_bar (c : Dev nD) : records X W K ⊢ cellInv ER (talkRd X W) (K (barCell c)) (barCell c) := by
  unfold records; exact BI.sep_and.trans (BI.and_elimL.trans (bigSep_elim (bar_mem c)))
theorem inv_own (c : Dev nD) (k : OK) : records X W K ⊢ cellInv ER (talkRd X W) (K ((c : Thread nD τ), osem k)) ((c : Thread nD τ), osem k) := by
  unfold records; exact BI.sep_and.trans (BI.and_elimL.trans (bigSep_elim (own_mem c k)))
theorem inv_send (c : Dev nD) (j : Fin 32) : records X W K ⊢ cellInv ER (talkRd X W) (K (sendCell c j)) (sendCell c j) := inv_own X W K c (.inl j)
theorem inv_recv (c : Dev nD) (j : Fin 32) : records X W K ⊢ cellInv ER (talkRd X W) (K (recvCell c j)) (recvCell c j) := inv_own X W K c (.inr (.inl j))
theorem inv_chunk (c : Dev nD) (b : Fin 4) : records X W K ⊢ cellInv ER (talkRd X W) (K (wCell c b)) (wCell c b) := inv_own X W K c (.inr (.inr b))
theorem reached_bar (c : Dev nD) : records X W K ⊢ reached ER (barCell c) 0 := by
  unfold records; exact BI.sep_and.trans (BI.and_elimR.trans (bigSep_elim (Finset.mem_map_of_mem barEmb (Finset.mem_univ c))))

/-- Chunk buffer of step `s`. -/
abbrev bufOf (s : ℕ) : Fin 4 := ⟨s % 4, Nat.mod_lt _ (by decide)⟩

/-- The tokens of the duties device `c` pays. -/
def payToks (c : Fin 32) : sProp 𝕄 :=
  iprop((bigSep (Finset.Ico 1 32) fun j => dutyTok ER (barCell (ord c j)) 0 c)
    ∗ (bigSep (Finset.Ico 1 32) fun j => dutyTok ER (recvCell (ord c j) c) 0 0)
    ∗ (bigSep (Finset.Ico 1 32) fun j => dutyTok ER (sendCell c (ord c j)) 0 0)
    ∗ (bigSep (Finset.Ico 0 32) fun s => dutyTok ER (wCell c (bufOf s)) (s / 4) 0))

/-- The credit device `c` waits with. -/
def waitCreds (c : Fin 32) : sProp 𝕄 :=
  iprop(cred (tallyAt (barCell c) () 31) ∗ bigSep (Finset.Ico 1 32) fun j => cred (tallyAt (recvCell c (ord c j)) () NB))

/-- What device `c` carries from launch to the call. -/
def ghost (c : Fin 32) : sProp 𝕄 :=
  iprop(records X W K ∗ atPos ER (barCell c) 0 ∅ 0 ∗ (bigSep Finset.univ fun k : OK => openTok ER ((c : Thread nD τ), osem k)) ∗ payToks c)

/-- Round 0 of every own cell is reached. -/
def ownReached (c : Fin 32) : sProp 𝕄 := bigSep Finset.univ fun k : OK => reached ER ((c : Thread nD τ), osem k) 0
instance ownReached_persistent (c : Fin 32) : BI.Persistent (ownReached (F := F) c) := by unfold ownReached; infer_instance

/-- The same once its own cells are open. -/
def opened (c : Fin 32) : sProp 𝕄 :=
  iprop(records X W K ∗ ownReached c ∗ atPos ER (barCell c) 0 ∅ 0 ∗ (bigSep Finset.univ fun k : OK => atPos ER ((c : Thread nD τ), osem k) 0 ∅ 0) ∗ payToks c)

theorem open_one (c : Fin 32) (k : OK) :
    iprop(records X W K ∗ (openTok ER ((c : Thread nD τ), osem k) ∗ semVal ((c : Thread nD τ), osem k) 0))
      ⊢ (|={Set.univ}=> iprop(atPos ER ((c : Thread nD τ), osem k) 0 ∅ 0 ∗ reached ER ((c : Thread nD τ), osem k) 0) : sProp 𝕄) := by
  iintro ⟨#HR, Ho, Hs⟩
  imod (Rounds.cell_open ER (talkRd X W) (g := ((c : Thread nD τ), osem k)) (Set.mem_univ (K ((c : Thread nD τ), osem k)))) $$ [Ho Hs] with ⟨Ha, Hr⟩
  · isplitr; · iapply (inv_own X W K c k); iexact HR
    isplitl [Ho] <;> iassumption
  imodintro
  isplitl [Ha] <;> iassumption

end Cert.KernelIdeal.A2A

end
-- ==== Proof.Steps.lean ====
/-
  The states the body passes through, each a product over the steps 0 ... 31 of the device's own order, and what each
  of the body's effects does to them: a read of the order, a signal, a chunk copy started and waited for, a block sent,
  waited for and given back, a load of a landed piece.
-/
module

public import proofs.«01_k».proof.Proof.Protocol

@[expose] public section

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

abbrev 𝒱₀ : Variants := Variants.none

/-- The body's programs, and running one on device `c`. -/
abbrev BProg (F : FTy → Type) (α : Type) : Type 1 := Prog (TpuEff nD τ sig (Elt F) Λ₀ .tc) α
abbrev run {α : Type} (c : Dev nD) (p : BProg F α) (Q : α → sProp 𝕄) : sProp 𝕄 :=
  wp frame (wpE (defs₀ (F := F)) 𝒱₀ (c : Thread nD τ) none) Set.univ p Q

/-! ## Products over steps -/

theorem pop {a b : ℕ} (h : a < b) (Φ : ℕ → sProp 𝕄) :
    bigSep (Finset.Ico a b) Φ = iprop(Φ a ∗ bigSep (Finset.Ico (a + 1) b) Φ) := by
  rw [Ico_pop h, bigSep_insert (Ico_pop_notMem a b)]; rfl
theorem push {a b : ℕ} (h : a ≤ b) (Φ : ℕ → sProp 𝕄) :
    bigSep (Finset.Ico a (b + 1)) Φ = iprop(Φ b ∗ bigSep (Finset.Ico a b) Φ) := by
  rw [Ico_push h, bigSep_insert (Ico_push_notMem a b)]; rfl
theorem pull {S : Finset ℕ} {j : ℕ} (h : j ∈ S) (Φ : ℕ → sProp 𝕄) :
    bigSep S Φ = iprop(Φ j ∗ bigSep (S.erase j) Φ) := by
  rw [bigSep_erase h]; rfl
theorem none_left (a : ℕ) (Φ : ℕ → sProp 𝕄) : bigSep (Finset.Ico a a) Φ = (BI.emp : sProp 𝕄) := by
  rw [Finset.Ico_self, bigSep_empty]

/-- A product over all devices is one over the steps of a device's order. -/
theorem by_order (c : Fin 32) (Φ : Fin 32 → sProp 𝕄) :
    bigSep Finset.univ Φ = bigSep (Finset.Ico 0 32) fun j => Φ (ord c j) := by
  have e : Finset.univ = (Finset.Ico 0 32).image (ord c) := by
    rw [← ord_image c, Finset.range_eq_Ico]
  rw [e]
  exact Finset.fold_image fun i hi j hj h => ord_inj c (Finset.mem_Ico.1 hi).2 (Finset.mem_Ico.1 hj).2 h
theorem by_order_rest (c : Fin 32) (Φ : Fin 32 → sProp 𝕄) :
    bigSep (Finset.univ.erase c) Φ = bigSep (Finset.Ico 1 32) fun j => Φ (ord c j) := by
  rw [← ord_image_rest c]
  exact Finset.fold_image fun i hi j hj h => ord_inj c (Finset.mem_Ico.1 hi).2 (Finset.mem_Ico.1 hj).2 h

variable (X : Dev nD → S8192x256.Idx → F .f32) (W : Dev nD → S8192x4096.Idx → F .f32)
variable (K : GSem nD τ sig → ℕ) (c : Fin 32)

/-- Device `c` owes `O`. -/
def owing (O : CellTallies nD τ sig Unit) : sProp 𝕄 := iprop(∃ Wt, owes (c : Thread nD τ) O Wt)

/-! ## The order -/

/-- The staged row of the order table. -/
def ordF : S32.Idx → Elt F .i32 := fun i => wd (ord c (i 0).val)
def ordPts : sProp 𝕄 := iprop((c : Thread nD τ).loc cc0_stg0_0 ↦{fullShare} ordF (F := F) c)

theorem order_read (j : Fin 32) (inb) :
    (ordM.access (Rect.unit (s := S32) ![j.val] S1.size inb)).read (Elt F) (ordF (F := F) c) = fun _ => wd (ord c j.val) := by
  funext y
  show ordF (F := F) c ((Rect.unit (s := S32) ![j.val] S1.size inb).emb y) = _
  have h : (y 0).val < 1 := (y 0).isLt
  have e : ((Rect.unit (s := S32) ![j.val] S1.size inb).emb y 0).val = j.val := by
    rw [Rect.emb_apply]; simp; omega
  exact congrArg (fun n => wd (ord c n)) e

theorem wp_order {α : Type} (j : ℕ) (hj : j < 32) {off : Fin 1 → ℕ} (hoff : off = ![j]) {inb}
    {hl} (k : (S1.Idx → Elt F .i32) → BProg F α) (Q : α → sProp 𝕄) :
    ordPts c ⊢ iprop((ordPts c -∗ run c (k fun _ => wd (ord c j)) Q)
      -∗ run c (Prog.op (.load ordM (Rect.unit (s := S32) off S1.size inb).toLoadRect hl) k) Q) := by
  subst hoff
  unfold ordPts
  have h := wp_load_rect (Γ := .empty) (defs := defs₀ (F := F)) 𝒱₀ (c : Thread nD τ) none Set.univ (m := ordM)
    (r := Rect.unit (s := S32) ![j] S1.size inb) (hl := hl) (k := k) (Q := Q) (q := fullShare) (f := ordF (F := F) c)
    (Finset.subset_univ _)
  rw [show (ordM.access (Rect.unit (s := S32) ![j] S1.size inb)).read (Elt F) (ordF (F := F) c)
    = fun _ => wd (ord c j) from order_read c ⟨j, hj⟩ inb] at h
  exact h

/-! ## The barrier -/

/-- Before the signal of step `a`. -/
def sigSt (a : ℕ) : sProp 𝕄 :=
  iprop((bigSep (Finset.Ico a 32) fun j => iprop(dutyTok ER (barCell (ord c j)) 0 c ∗ ∃ f, slPts c (ord c j) f))
    ∗ owing c (RO c 1 + BO c a))

theorem reached_send (j : Fin 32) : ownReached (F := F) c ⊢ reached ER (sendCell c j) 0 :=
  bigSep_elim (Finset.mem_univ (Sum.inl j : OK))
theorem reached_recv (j : Fin 32) : ownReached (F := F) c ⊢ reached ER (recvCell c j) 0 :=
  bigSep_elim (Finset.mem_univ (Sum.inr (Sum.inl j) : OK))
theorem reached_chunk (b : Fin 4) : ownReached (F := F) c ⊢ reached ER (wCell c b) 0 :=
  bigSep_elim (Finset.mem_univ (Sum.inr (Sum.inr b) : OK))

theorem wp_signal_step {α : Type} {a : ℕ} (h1 : 1 ≤ a) (h : a < 32) {dev : Dev nD} (hdev : dev = ord c a) {sem : Sem sig} (hs : sem = barrier0)
    (k : PUnit → BProg F α) (Q : α → sProp 𝕄) :
    iprop(records X W K ∗ ownReached c ∗ sigSt c a) ⊢ iprop((sigSt c (a + 1) -∗ run c (k ⟨⟩) Q)
      -∗ run c (Prog.op (.semSignal (Dev.tc dev) sem (1#32).toInt) k) Q) := by
  subst hdev hs
  rw [show (1#32).toInt = ((1 : ℕ) : Int) from rfl]
  unfold sigSt owing
  rw [pop h]
  iintro ⟨#HR, #HO, ⟨⟨Ht, Hs⟩, Hrest⟩, HW⟩ Hk
  icases HW with ⟨%Wt, HW⟩
  iapply (Rounds.wp_signal 𝒱₀ ER (talkRd X W) (c : Thread nD τ) none (dst := Dev.tc (ord c a)) (r := 0) (d := c) (κ := K (barCell (ord c a)))
      (by rw [duties_bar]; exact Finset.mem_erase.2 ⟨(ord_ne c h1 h).symm, Finset.mem_univ _⟩) (amount_bar X W _ _ _) () (O₀ := RO c 1 + BO c a) (RO c 1 + BO c (a + 1))
      (by rw [BO_succ c h, add_assoc])) $$ [HW Ht Hs]
  · isplitr; · iapply (inv_bar X W K (ord c a)); iexact HR
    isplitl [HW]; · iexact HW
    isplitl [Ht]; · iexact Ht
    isplitl [Hs]
    · iapply (Entails.of_eq (payload_bar X W (ord c a) 0 c).symm)
      unfold barPay
      isplitl [Hs]; · iexact Hs
      iapply (reached_recv c (ord c a)); iexact HO
    iapply (reached_bar X W K (ord c a)); iexact HR
  iintro HW
  iapply Hk
  isplitl [Hrest]; · iexact Hrest
  iexists Wt; iexact HW

/-- After the wait of the barrier: every other device has granted its slot for `c`'s block. -/
theorem wp_bar_wait {α : Type} {sem : Sem sig} (hs : sem = barrier0) (k : PUnit → BProg F α) (Q : α → sProp 𝕄) :
    iprop(records X W K ∗ levAts L lv ∗ owing c (RO c 1) ∗ cred (tallyAt (barCell c) () 31) ∗ atPos ER (barCell c) 0 ∅ 0)
      ⊢ iprop((owing c (RO c 1) ∗ atPos ER (barCell c) 1 ∅ 0 ∗ (bigSep (Finset.Ico 1 32) fun j => barPay c (ord c j)) -∗ run c (k ⟨⟩) Q)
      -∗ run c (Prog.op (.semWait sem (31#32).toInt) k) Q) := by
  subst hs
  rw [show (31#32).toInt = ((31 : ℕ) : Int) from rfl]
  unfold owing
  iintro ⟨#HR, #Hl, HW, Hc, Ha⟩ Hk
  icases HW with ⟨%Wt, HW⟩
  iapply (Rounds.wp_wait_rest_token 𝒱₀ ER (talkRd X W) (c : Thread nD τ) none (κ := K (barCell c))
      (wpE_semWait_eq 𝒱₀ (c : Thread nD τ) none Set.univ) (Set.mem_univ _) () (O := RO c 1) (W := Wt) (R := 0) (m := 0) (T := ∅)
      ((Nat.zero_add 31).trans (expect_bar X W c).symm)) $$ [HW Hc Ha]
  · isplitr; · iapply (inv_bar X W K c); iexact HR
    isplitl [Hc]; · iexact Hc
    isplitl [HW]; · iexact HW
    isplitr; · iapply (mayWait_bar c); iexact Hl
    iexact Ha
  iintro ⟨HW, Ha, -, Hp⟩
  ihave Hp := (Entails.of_eq ((rest_bar X W c).trans (by_order_rest c _))) $$ Hp
  iapply Hk
  isplitl [HW]; · iexists (insert (SemLoc.reg barrier0, ()) Wt); iexact HW
  isplitl [Ha]; · iexact Ha
  iexact Hp

/-! ## The weight chunks -/

/-- `s` chunks waited for, `n` started. -/
def chunkSt (s n : ℕ) : sProp 𝕄 :=
  iprop((bigSep (Finset.Ico s n) fun j => cred (tallyAt (wCell c (bufOf j)) () NW))
    ∗ (bigSep (Finset.Ico n (s + 4)) fun j => iprop(∃ f, bfPts c (bufOf j) f))
    ∗ (bigSep (Finset.Ico n 32) fun j => wrPts c (ord c j) (W c))
    ∗ (bigSep (Finset.Ico 0 s) fun j => wrPts c (ord c j) (W c))
    ∗ (bigSep (Finset.Ico n 32) fun j => dutyTok ER (wCell c (bufOf j)) (j / 4) 0)
    ∗ (bigSep (Finset.Ico s (s + 4)) fun j => iprop(atPos ER (wCell c (bufOf j)) (j / 4) ∅ 0 ∗ reached ER (wCell c (bufOf j)) (j / 4))))

theorem reached_of_range {s n : ℕ} (h : n ∈ Finset.Ico s (s + 4)) :
    (bigSep (Finset.Ico s (s + 4)) fun j => iprop(atPos ER (wCell c (bufOf j)) (j / 4) ∅ 0 ∗ reached ER (wCell c (bufOf j)) (j / 4)))
      ⊢ (reached ER (wCell c (bufOf n)) (n / 4) : sProp 𝕄) :=
  (bigSep_elim h).trans (BI.sep_and.trans BI.and_elimR)

theorem chunk_landed (n : ℕ) (f) :
    iprop(((bfV (bufOf n)).view.loc (c : Thread nD τ) ↦[(bfV (bufOf n)).view.set]{fullShare}
        ((bfV (bufOf n)).view.write (Elt F) f ((wrV (ord c n)).view.read (Elt F) (W c)) Finset.univ))
      ∗ ((wrV (ord c n)).view.loc (c : Thread nD τ) ↦[(wrV (ord c n)).view.set]{fullShare} W c))
    ⊢ ((talkRd X W).payload (wCell c (bufOf n)) (n / 4) 0 : sProp 𝕄) := by
  rw [payload_chunk, show 4 * (n / 4) + (bufOf n).val = n from Nat.div_add_mod n 4]
  unfold chunkPay
  refine sep_mono_left (Entails.of_eq (pointsTo_congr fun i hi => ?_))
  exact buf_landed (W c) (ord c n) (bufOf n) f i hi

/-- Start the copy of chunk `n`. -/
theorem wp_chunk_start {α : Type} {s n : ℕ} (hsn : s ≤ n) (hn : n < s + 4) (h : n < 32)
    {off : Fin 2 → ℕ} (hoff : off = ![256 * (ord c n).val, 0]) {inb} {b : Fin 4} (hb : b = bufOf n)
    {sem : DmaSem sig} (hs : sem = wS b) {h1 h2 h3} (k : PUnit → BProg F α) (Q : α → sProp 𝕄) :
    iprop(records X W K ∗ chunkSt W c s n) ⊢ iprop((chunkSt W c s (n + 1) -∗ run c (k ⟨⟩) Q)
      -∗ run c (Prog.op (.enqueueDma (wM.slice (Rect.unit (s := S8192x4096) off S256x4096.size inb) (fun _ => rfl)) (.here (bfV b)) (.dma sem) h1 h2 h3) k) Q) := by
  subst hoff hb hs
  unfold chunkSt
  rw [pop hn, pop (a := n) (b := 32) h, pop (a := n) (b := 32) h, push hsn]
  iintro ⟨#HR, Hc, ⟨Hb, Hbs⟩, ⟨Hw, Hws⟩, Hdone, ⟨Ht, Hts⟩, Hp⟩ Hk
  icases Hb with ⟨%f, Hb⟩
  ihave ⟨Hp, #Hr⟩ := (show (bigSep (Finset.Ico s (s + 4)) fun j => iprop(atPos ER (wCell c (bufOf j)) (j / 4) ∅ 0 ∗ reached ER (wCell c (bufOf j)) (j / 4)))
      ⊢ iprop((bigSep (Finset.Ico s (s + 4)) fun j => iprop(atPos ER (wCell c (bufOf j)) (j / 4) ∅ 0 ∗ reached ER (wCell c (bufOf j)) (j / 4)))
        ∗ (reached ER (wCell c (bufOf n)) (n / 4) : sProp 𝕄))
      from persistent_entails_left (reached_of_range c (Finset.mem_Ico.2 ⟨hsn, hn⟩))) $$ Hp
  iapply (Rounds.wp_copy_pointsTo 𝒱₀ ER (talkRd X W) (c : Thread nD τ) none (src := wrV (ord c n)) (dst := bfV (bufOf n)) (sem := .dma (wS (bufOf n)))
      (q := fullShare) (fs := W c) (fd := f) (r := n / 4) (d := 0) (κ := K (wCell c (bufOf n)))
      (by rw [duties_chunk X W c (bufOf n) (by omega)]; exact Finset.mem_singleton_self _) () NW rfl (amount_chunk X W c (bufOf n) (n / 4) 0)
      (chunk_landed X W c n f)) $$ [Hb Hw Ht]
  · isplitr; · iapply (inv_chunk X W K c (bufOf n)); iexact HR
    isplitl [Hw]; · iexact Hw
    isplitl [Hb]; · iexact Hb
    isplitl [Ht]; · iexact Ht
    iexact Hr
  iintro Hcr
  iapply Hk
  isplitl [Hcr Hc]; · isplitl [Hcr] <;> iassumption
  isplitl [Hbs]; · iexact Hbs
  isplitl [Hws]; · iexact Hws
  isplitl [Hdone]; · iexact Hdone
  isplitl [Hts]; · iexact Hts
  iexact Hp

/-- What a wait at amount `N` by a device that owes nothing does, whatever buffers it names. -/
theorem wp_wait_dma {α : Type} {sem : DmaSem sig} {N R : ℕ} (hN : (talkRd X W).expect ((c : Thread nD τ), .dma sem) R = N) {P : sProp 𝕄}
    (hP : bigSep ((talkRd X W).duties ((c : Thread nD τ), .dma sem) R \ ∅) (fun u => (talkRd X W).payload ((c : Thread nD τ), .dma sem) R u) = P)
    {s s' : Shape} {e e' : EltTy} {sp sp' : Space}
    {src : Memref sig .tc sp' s' e'} {dst : Memref sig .tc sp s e} {h1 h2} (hd : dst.view.dmaCredit = N) (k : PUnit → BProg F α) (Q : α → sProp 𝕄) :
    iprop(cellInv ER (talkRd X W) (K ((c : Thread nD τ), .dma sem)) ((c : Thread nD τ), .dma sem) ∗ owing c 0
        ∗ cred (tallyAt ((c : Thread nD τ), .dma sem) () N) ∗ atPos ER ((c : Thread nD τ), .dma sem) R ∅ 0)
      ⊢ iprop((owing c 0 ∗ atPos ER ((c : Thread nD τ), .dma sem) (R + 1) ∅ 0 ∗ reached ER ((c : Thread nD τ), .dma sem) (R + 1) ∗ P -∗ run c (k ⟨⟩) Q)
      -∗ run c (Prog.op (.waitDma2 sem src dst h1 h2) k) Q) := by
  subst hd hP
  unfold owing
  iintro ⟨#HI, HW, Hc, Ha⟩ Hk
  icases HW with ⟨%Wt, HW⟩
  iapply (Rounds.wp_wait_rest_token 𝒱₀ ER (talkRd X W) (c : Thread nD τ) none (κ := K ((c : Thread nD τ), .dma sem))
      (wpE_waitDma2_eq (src := src) (dst := dst) 𝒱₀ (c : Thread nD τ) none Set.univ) (Set.mem_univ _) () (O := 0) (W := Wt) (R := R) (m := 0) (T := ∅)
      ((Nat.zero_add _).trans hN.symm)) $$ [HW Hc Ha]
  · isplitr; · iexact HI
    isplitl [Hc]; · iexact Hc
    isplitl [HW]; · iexact HW
    isplitr; · rw [MayWait_zero]; iempintro
    iexact Ha
  iintro ⟨HW, Ha, Hr, Hp⟩
  iapply Hk
  isplitl [HW]; · iexists (insert (SemLoc.dma sem, ()) Wt); iexact HW
  isplitl [Ha]; · iexact Ha
  isplitl [Hr]; · iexact Hr
  iexact Hp

/-- Wait for chunk `s`: the chunk buffer is at it, to be given back at anything. -/
theorem wp_chunk_wait {α : Type} {s n : ℕ} (hsn : s < n) (hn : n ≤ s + 4) (h : s < 32) {sem : DmaSem sig} (hs : sem = wS (bufOf s))
    {s₁ s₂ : Shape} {e₁ e₂ : EltTy} {sp₁ sp₂ : Space}
    {src : Memref sig .tc sp₁ s₁ e₁} {dst : Memref sig .tc sp₂ s₂ e₂} {h1 h2} (hd : dst.view.dmaCredit = NW) (k : PUnit → BProg F α) (Q : α → sProp 𝕄) :
    iprop(records X W K ∗ owing c 0 ∗ chunkSt W c s n)
      ⊢ iprop((owing c 0 ∗ bfPts c (bufOf s) (bufAt (W c) (ord c s)) ∗ (iprop(∃ f, bfPts c (bufOf s) f) -∗ chunkSt W c (s + 1) n) -∗ run c (k ⟨⟩) Q)
      -∗ run c (Prog.op (.waitDma2 sem src dst h1 h2) k) Q) := by
  subst hs
  have e1 : bufOf (s + 4) = bufOf s := Fin.ext (Nat.add_mod_right s 4)
  have e2 : (s + 4) / 4 = s / 4 + 1 := by omega
  have hX : chunkSt (F := F) W c (s + 1) n = iprop((bigSep (Finset.Ico (s + 1) n) fun j => cred (tallyAt (wCell c (bufOf j)) () NW))
    ∗ ((∃ f, bfPts c (bufOf s) f) ∗ bigSep (Finset.Ico n (s + 4)) fun j => iprop(∃ f, bfPts c (bufOf j) f))
    ∗ (bigSep (Finset.Ico n 32) fun j => wrPts c (ord c j) (W c))
    ∗ (wrPts c (ord c s) (W c) ∗ bigSep (Finset.Ico 0 s) fun j => wrPts c (ord c j) (W c))
    ∗ (bigSep (Finset.Ico n 32) fun j => dutyTok ER (wCell c (bufOf j)) (j / 4) 0)
    ∗ ((atPos ER (wCell c (bufOf s)) (s / 4 + 1) ∅ 0 ∗ reached ER (wCell c (bufOf s)) (s / 4 + 1))
      ∗ bigSep (Finset.Ico (s + 1) (s + 4)) fun j => iprop(atPos ER (wCell c (bufOf j)) (j / 4) ∅ 0 ∗ reached ER (wCell c (bufOf j)) (j / 4)))) := by
    unfold chunkSt
    rw [show s + 1 + 4 = s + 4 + 1 from by omega, push hn, push (Nat.zero_le s), push (show s + 1 ≤ s + 4 by omega), e1, e2]
  rw [hX]
  unfold chunkSt
  rw [pop hsn, pop (show s < s + 4 by omega)]
  iintro ⟨#HR, HW, ⟨Hc, Hcs⟩, Hbs, Hws, Hdone, Hts, ⟨⟨Ha, Hr⟩, Hps⟩⟩ Hk
  iapply (wp_wait_dma X W K c (sem := wS (bufOf s)) (R := s / 4) (expect_chunk X W c (bufOf s) (by omega))
      (rest_chunk X W c (bufOf s) (by omega)) (src := src) (dst := dst) hd k Q) $$ [HW Hc Ha]
  · isplitr; · iapply (inv_chunk X W K c (bufOf s)); iexact HR
    isplitl [HW]; · iexact HW
    isplitl [Hc] <;> iassumption
  rw [show 4 * (s / 4) + (bufOf s).val = s from Nat.div_add_mod s 4]
  unfold chunkPay
  iintro ⟨HW, Ha, Hr, ⟨Hb, Hw⟩⟩
  iapply Hk
  isplitl [HW]; · iexact HW
  isplitl [Hb]; · iexact Hb
  iintro Hb
  isplitl [Hcs]; · iexact Hcs
  isplitl [Hb Hbs]; · isplitl [Hb] <;> iassumption
  isplitl [Hws]; · iexact Hws
  isplitl [Hw Hdone]; · isplitl [Hw] <;> iassumption
  isplitl [Hts]; · iexact Hts
  isplitl [Ha Hr]
  · isplitl [Ha] <;> iassumption
  iexact Hps

/-! ## The blocks received -/

/-- Blocks of steps below `a` are in their slots. -/
def recvSt (a : ℕ) : sProp 𝕄 :=
  iprop((bigSep (Finset.Ico a 32) fun j => iprop(cred (tallyAt (recvCell c (ord c j)) () NB) ∗ atPos ER (recvCell c (ord c j)) 0 ∅ 0))
    ∗ (bigSep (Finset.Ico 0 a) fun j => slPts c (ord c j) (slotsAll (xbOf X) c))
    ∗ (bigSep (Finset.Ico 1 a) fun j => atPos ER (recvCell c (ord c j)) 1 ∅ 0))

theorem wp_recv_wait {α : Type} {a : ℕ} (h1 : 1 ≤ a) (h : a < 32) {sem : DmaSem sig} (hs : sem = recvS (ord c a))
    {s₁ s₂ : Shape} {e₁ e₂ : EltTy} {sp₁ sp₂ : Space}
    {src : Memref sig .tc sp₁ s₁ e₁} {dst : Memref sig .tc sp₂ s₂ e₂} {h1' h2} (hd : dst.view.dmaCredit = NB) (k : PUnit → BProg F α) (Q : α → sProp 𝕄) :
    iprop(records X W K ∗ owing c 0 ∗ recvSt X c a)
      ⊢ iprop((owing c 0 ∗ recvSt X c (a + 1) -∗ run c (k ⟨⟩) Q) -∗ run c (Prog.op (.waitDma2 sem src dst h1' h2) k) Q) := by
  subst hs
  unfold recvSt
  rw [pop h, push (Nat.zero_le a), push h1]
  iintro ⟨#HR, HW, ⟨⟨Hc, Ha⟩, Hcs⟩, Hsl, Hps⟩ Hk
  iapply (wp_wait_dma X W K c (sem := recvS (ord c a)) (R := 0) (expect_recv X W c (ord_ne c h1 h))
      (rest_recv X W c (ord_ne c h1 h)) (src := src) (dst := dst) hd k Q) $$ [HW Hc Ha]
  · isplitr; · iapply (inv_recv X W K c (ord c a)); iexact HR
    isplitl [HW]; · iexact HW
    isplitl [Hc] <;> iassumption
  iintro ⟨HW, Ha, -, Hs⟩
  iapply Hk
  isplitl [HW]; · iexact HW
  isplitl [Hcs]; · iexact Hcs
  isplitl [Hs Hsl]; · isplitl [Hs] <;> iassumption
  isplitl [Ha] <;> iassumption

/-! ## The blocks sent -/

/-- Blocks of steps below `a` are on their way. -/
def sendingSt (a : ℕ) : sProp 𝕄 :=
  iprop((bigSep (Finset.Ico a 32) fun j => xrPts c (ord c j) (xbOf X c))
    ∗ (bigSep (Finset.Ico a 32) fun j => barPay c (ord c j))
    ∗ (bigSep (Finset.Ico a 32) fun j => dutyTok ER (recvCell (ord c j) c) 0 0)
    ∗ (bigSep (Finset.Ico a 32) fun j => dutyTok ER (sendCell c (ord c j)) 0 0)
    ∗ (bigSep (Finset.Ico 1 a) fun j => cred (tallyAt (sendCell c (ord c j)) () NB))
    ∗ owing c (RO c a))

theorem wp_send_step {α : Type} {a : ℕ} (h1 : 1 ≤ a) (h : a < 32) {dev : Dev nD} (hdev : dev = ord c a)
    {off : Fin 2 → ℕ} (hoff : off = ![256 * (ord c a).val, 0]) {inb} {off' : Fin 3 → ℕ} (hoff' : off' = ![c.val, 0, 0]) {inb'}
    {sS : DmaSem sig} (hs : sS = sendS (ord c a)) {sR : DmaSem sig} (hr : sR = recvS c) {ha hb hc hd}
    (k : PUnit → BProg F α) (Q : α → sProp 𝕄) :
    iprop(records X W K ∗ ownReached c ∗ sendingSt X c a) ⊢ iprop((sendingSt X c (a + 1) -∗ run c (k ⟨⟩) Q)
      -∗ run c (Prog.op (.enqueueDma (xbM.slice (Rect.unit (s := S8192x256) off S256x256.size inb) (fun _ => rfl))
          (.remote (Dev.tc dev) ((slM.slice (Rect.unit (s := S32x256x256) off' S1x256x256.size inb') (fun _ => rfl)).squeeze S256x256 squeezes_S1x256x256_S256x256)
            (.dma sS) ha) (.dma sR) hb hc hd) k) Q) := by
  subst hdev hoff hoff' hs hr
  unfold sendingSt owing
  rw [pop h, pop h, pop h, pop h, push h1]
  unfold barPay
  iintro ⟨#HR, #HO, ⟨Hx, Hxs⟩, ⟨⟨Hs, #Hrr⟩, Hss⟩, ⟨Htr, Htrs⟩, ⟨Hts, Htss⟩, Hcs, HW⟩ Hk
  icases HW with ⟨%Wt, HW⟩
  icases Hs with ⟨%f, Hs⟩
  iapply (Rounds.wp_send_pointsTo 𝒱₀ ER (talkRd X W) (c : Thread nD τ) none (c' := Dev.tc (ord c a)) (src := xrV (ord c a)) (dst := slV c)
      (sS := .dma (sendS (ord c a))) (sem := .dma (recvS c)) (q := fullShare) (fs := xbOf X c) (fd := f) (r₁ := 0) (r₂ := 0) (d₁ := 0) (d₂ := 0)
      (κ₁ := K (sendCell c (ord c a))) (κ₂ := K (recvCell (ord c a) c))
      (by rw [duties_send X W c (ord_ne c h1 h)]; exact Finset.mem_singleton_self _)
      (by rw [duties_recv X W (ord c a) (ord_ne c h1 h).symm]; exact Finset.mem_singleton_self _) () () NB rfl
      (amount_send X W c (ord c a) 0 0) (amount_recv X W (ord c a) c 0 0) (O₀ := RO c a) (RO c (a + 1)) (RO_succ c h)
      (Entails.of_eq (payload_send X W c (ord c a) 0 0).symm)
      (Entails.of_eq ((pointsTo_congr fun i hi => slot_landed (xbOf X) c (ord c a) f i hi).trans (payload_recv X W (ord c a) c 0 0).symm))) $$ [Hx Hs Htr Hts HW]
  · isplitr; · iapply (inv_send X W K c (ord c a)); iexact HR
    isplitr; · iapply (inv_recv X W K (ord c a) c); iexact HR
    isplitl [Hx]; · iexact Hx
    isplitl [Hs]; · iexact Hs
    isplitl [HW]; · iexact HW
    isplitl [Hts]; · iexact Hts
    isplitr; · iapply (reached_send c (ord c a)); iexact HO
    isplitl [Htr]; · iexact Htr
    iexact Hrr
  iintro ⟨Hc, HW⟩
  iapply Hk
  isplitl [Hxs]; · iexact Hxs
  isplitl [Hss]; · iexact Hss
  isplitl [Htrs]; · iexact Htrs
  isplitl [Htss]; · iexact Htss
  isplitl [Hc Hcs]; · isplitl [Hc] <;> iassumption
  iexists Wt; iexact HW

/-- Sends of steps below `a` are over. -/
def sendSt (a : ℕ) : sProp 𝕄 :=
  iprop((bigSep (Finset.Ico a 32) fun j => iprop(cred (tallyAt (sendCell c (ord c j)) () NB) ∗ atPos ER (sendCell c (ord c j)) 0 ∅ 0))
    ∗ (bigSep (Finset.Ico 0 a) fun j => xrPts c (ord c j) (xbOf X c))
    ∗ (bigSep (Finset.Ico 1 a) fun j => atPos ER (sendCell c (ord c j)) 1 ∅ 0))

theorem wp_sent_wait {α : Type} {a : ℕ} (h1 : 1 ≤ a) (h : a < 32) {sem : DmaSem sig} (hs : sem = sendS (ord c a))
    {s₁ s₂ : Shape} {e₁ e₂ : EltTy} {sp₁ sp₂ : Space}
    {src : Memref sig .tc sp₁ s₁ e₁} {dst : Memref sig .tc sp₂ s₂ e₂} {h1' h2} (hd : dst.view.dmaCredit = NB) (k : PUnit → BProg F α) (Q : α → sProp 𝕄) :
    iprop(records X W K ∗ owing c 0 ∗ sendSt X c a)
      ⊢ iprop((owing c 0 ∗ sendSt X c (a + 1) -∗ run c (k ⟨⟩) Q) -∗ run c (Prog.op (.waitDma2 sem src dst h1' h2) k) Q) := by
  subst hs
  unfold sendSt
  rw [pop h, push (Nat.zero_le a), push h1]
  iintro ⟨#HR, HW, ⟨⟨Hc, Ha⟩, Hcs⟩, Hsl, Hps⟩ Hk
  iapply (wp_wait_dma X W K c (sem := sendS (ord c a)) (R := 0) (expect_send X W c (ord_ne c h1 h))
      (rest_send X W c (ord_ne c h1 h)) (src := src) (dst := dst) hd k Q) $$ [HW Hc Ha]
  · isplitr; · iapply (inv_send X W K c (ord c a)); iexact HR
    isplitl [HW]; · iexact HW
    isplitl [Hc] <;> iassumption
  iintro ⟨HW, Ha, -, Hs⟩
  iapply Hk
  isplitl [HW]; · iexact HW
  isplitl [Hcs]; · iexact Hcs
  isplitl [Hs Hsl]; · isplitl [Hs] <;> iassumption
  isplitl [Ha] <;> iassumption

/-! ## The loads of landed pieces -/

theorem wp_slot_load {α : Type} {a j : ℕ} (h : j < a) {off : Fin 3 → ℕ} (hoff : off = ![(ord c j).val, 0, 0]) {inb hl}
    (k : (S1x256x256.Idx → Elt F .bf16) → BProg F α) (Q : α → sProp 𝕄) :
    recvSt X c a ⊢ iprop((recvSt X c a -∗ run c (k (slotOf (xbOf X (ord c j)) c)) Q)
      -∗ run c (Prog.op (.load slM (Rect.unit (s := S32x256x256) off S1x256x256.size inb).toLoadRect hl) k) Q) := by
  subst hoff
  have hX := slot_load (xbOf X) c (ord c j)
  have hj : j ∈ Finset.Ico 0 a := Finset.mem_Ico.2 ⟨Nat.zero_le _, h⟩
  unfold recvSt
  rw [pull hj]
  have hw := wp_load_rect (Γ := .empty) (defs := defs₀ (F := F)) 𝒱₀ (c : Thread nD τ) none Set.univ (m := slM)
    (r := slotR (ord c j)) (hl := hl) (k := k) (Q := Q) (q := fullShare) (f := slotsAll (xbOf X) c) (S := (slV (ord c j)).view.set)
    (by rw [set_slV]; exact (View.set_slice_whole _ _).subset)
  rw [show (slM.access (slotR (ord c j))).read (Elt F) (slotsAll (xbOf X) c) = slotOf (xbOf X (ord c j)) c from hX] at hw
  iintro ⟨Hcs, ⟨Hs, Hss⟩, Hps⟩ Hk
  iapply hw $$ [Hs]
  · iexact Hs
  iintro Hs
  iapply Hk
  isplitl [Hcs]; · iexact Hcs
  isplitl [Hs Hss]; · isplitl [Hs] <;> iassumption
  iexact Hps

theorem wp_chunk_load {α : Type} {s : ℕ} {b : Fin 4} (hb : b = bufOf s) {off : Fin 3 → ℕ} (hoff : off = ![b.val, 0, 0]) {inb hl}
    (k : (S1x256x4096.Idx → Elt F .f32) → BProg F α) (Q : α → sProp 𝕄) :
    (bfPts c (bufOf s) (bufAt (W c) (ord c s)) : sProp 𝕄) ⊢ iprop((bfPts c (bufOf s) (bufAt (W c) (ord c s)) -∗ run c (k (chunkOf (W c) (ord c s))) Q)
      -∗ run c (Prog.op (.load bfM (Rect.unit (s := S4x256x4096) off S1x256x4096.size inb).toLoadRect hl) k) Q) := by
  subst hoff hb
  have hw := wp_load_rect (Γ := .empty) (defs := defs₀ (F := F)) 𝒱₀ (c : Thread nD τ) none Set.univ (m := bfM)
    (r := bufR (bufOf s)) (hl := hl) (k := k) (Q := Q) (q := fullShare) (f := bufAt (W c) (ord c s)) (S := (bfV (bufOf s)).view.set)
    (by rw [set_bfV]; exact (View.set_slice_whole _ _).subset)
  rw [show (bfM.access (bufR (bufOf s))).read (Elt F) (bufAt (W c) (ord c s)) = chunkOf (W c) (ord c s) from buf_load (W c) (ord c s) (bufOf s)] at hw
  exact hw

end Cert.KernelIdeal.A2A

end
-- ==== Proof.Order.lean ====
/-
  The order row a device is given: the host code takes the device's row out of the printed table.

-/
module

public import proofs.«01_k».proof.Proof.Steps
public import proofs.«01_k».proof.Proof.Gen.KernelIdeal.Regions
public import Idealize.ShloMosaic.Lib.StableHlo.RunRead

@[expose] public section

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- The device's number, as the host code computes it. -/
def hostRow (c : Dev nD) : IVec S_ 32 :=
  id (Host.remui (Host.divui (constantI S_ 32 c.word) (constantI S_ 32 1#32)) (constantI S_ 32 32#32))

/-- That number wrapped into the table's range. -/
def hostIdx (c : Dev nD) : IVec S1 32 :=
  broadcastInDim S1 ![] bcast_S_S1
    (select (cmpi CmpIPredicate.slt (hostRow c) (constantI S_ 32 0#32))
      (addi (hostRow c) (constantI S_ 32 32#32)) (hostRow c))

/-- Whether it lies in the table's range. -/
def hostIn (x : IVec S1 32) : IVec S1 1 :=
  andi (cmpi CmpIPredicate.sge x (broadcastInDim S1 ![] bcast_S_S1 (constantI S_ 32 0#32)))
    (cmpi CmpIPredicate.sle x (constantI S1 32 31#32))

theorem rowWord : ∀ c : Dev nD,
    Scalar.select (IntOp.cmpi CmpIPredicate.slt (IntOp.remui .vector (IntOp.divui .vector c.word 1#32) 32#32) 0#32)
      (IntOp.addi (IntOp.remui .vector (IntOp.divui .vector c.word 1#32) 32#32) 32#32)
      (IntOp.remui .vector (IntOp.divui .vector c.word 1#32) 32#32) = wd c := by decide +kernel

theorem hostIdx_eq (c : Dev nD) : hostIdx c = fun _ => wd c := by
  funext i
  exact rowWord c

theorem inWord : ∀ c : Dev nD,
    IntOp.andi (IntOp.cmpi CmpIPredicate.sge (wd c) 0#32) (IntOp.cmpi CmpIPredicate.sle (wd c) 31#32) = 1#1 := by
  decide +kernel

theorem hostIn_eq (c : Dev nD) : hostIn (fun _ => wd c) = fun _ => 1#1 := by
  funext i
  exact inWord c

theorem reduce_ones :
    Host.reduce IntOp.andi (fun _ => 1#1 : IVec S1 1) (constantI S_ 1 1#1) reducesTo_S1_S_d0 h_S_ = fun _ => 1#1 := by
  funext i
  rfl

theorem wd_row : ∀ c : Dev nD, min (wd c).toInt.toNat 31 = c.val := by decide +kernel

theorem row_major (c j : Fin 32) : (S32x32.rowMajor (ix2 c j)).val = 32 * c.val + j.val := by
  refine (Shape.rowMajor_val_two _).trans ?_
  show c.val * 32 + j.val = _
  rw [Nat.mul_comm]

/-- The table's row at a device's number. -/
theorem take_row (c : Dev nD) :
    Host.gather gather_S32x32_S1_S32_0_0_n_n_0_0_132 (fun i => lit0 (S32x32.rowMajor i)) (fun _ => wd c : IVec S1 32)
      = fun i => wd (ord c (i 0).val) := by
  funext i
  unfold Host.gather
  have hi : gather_S32x32_S1_S32_0_0_n_n_0_0_132.operandIdx i (fun _ => wd c : IVec S1 32) = ix2 c (i 0) := by
    funext a
    refine Fin.ext ?_
    show GatherDims.start _ i _ a + GatherDims.batchCoord _ i a + GatherDims.offCoord _ i a = _
    rw [GatherDims.batchCoord_eq_zero _ _ _ List.not_mem_nil]
    have h01 : a = 0 ∨ a = 1 := by
      match a with
      | ⟨0, _⟩ => exact Or.inl rfl
      | ⟨1, _⟩ => exact Or.inr rfl
    rcases h01 with rfl | rfl
    · rw [GatherDims.offCoord_eq_zero _ _ _
        (fun h => ((GatherDims.mem_sKept _ _).mp h).1 (List.mem_singleton.mpr rfl))]
      have hs : GatherDims.start gather_S32x32_S1_S32_0_0_n_n_0_0_132 i (fun _ => wd c : IVec S1 32) 0 = c.val := by
        unfold GatherDims.start
        refine (dif_pos (List.mem_singleton.mpr rfl)).trans ?_
        exact wd_row c
      exact hs
    · have hs : GatherDims.start gather_S32x32_S1_S32_0_0_n_n_0_0_132 i (fun _ => wd c : IVec S1 32) 1 = 0 := by
        unfold GatherDims.start
        exact dif_neg (by decide)
      have ho : GatherDims.offCoord gather_S32x32_S1_S32_0_0_n_n_0_0_132 i 1 = (i 0).val := by
        unfold GatherDims.offCoord
        exact dif_pos (by decide)
      show GatherDims.start gather_S32x32_S1_S32_0_0_n_n_0_0_132 i (fun _ => wd c : IVec S1 32) 1 + 0
        + GatherDims.offCoord gather_S32x32_S1_S32_0_0_n_n_0_0_132 i 1 = (i 0).val
      rw [hs, ho, Nat.zero_add]
  rw [hi]
  refine Eq.trans ?_ (lit_ord c (i 0))
  exact congrArg lit0t (row_major c (i 0))

set_option maxRecDepth 10000 in
theorem order_row (c : Dev nD) : V2 m c (Proc.devRef .tc main_v5) = ordF c := by
  have key : V2 m c (Proc.devRef .tc main_v5)
      = select (broadcastInDim S32 ![] bcast_S_S32
          (Host.reduce IntOp.andi (hostIn (hostIdx c)) (constantI S_ 1 1#1) reducesTo_S1_S_d0 h_S_))
        (Host.gather gather_S32x32_S1_S32_0_0_n_n_0_0_132 (fun i => lit0 (S32x32.rowMajor i)) (hostIdx c))
        (broadcastInDim S32 ![] bcast_S_S32 (constantI S_ 32 2147483648#32)) := by
    unfold V2 V1 hostOps0 hostOps0_1
    after_reads_simp
    rfl
  rw [key, hostIdx_eq, hostIn_eq, reduce_ones, take_row]
  rfl

end Cert.KernelIdeal.A2A

end
-- ==== Proof.Moves.lean ====
/-
  The semaphores the printed body names by slices of its arrays, the loads and stores of the output block, and the
  state the main loop keeps from step to step.
-/
module

public import proofs.«01_k».proof.Proof.Steps

@[expose] public section

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

/-! ## Semaphores -/

theorem sem_send {off : Fin 1 → ℕ} (k : Fin 32) (h : off = ![k.val]) (inb) :
    ((cc0_scratch3.slice (Rect.unit (s := S32) off S1.size inb)).squeeze S_ squeezes_S1_S_).sem = sendS k := by
  subst h; revert k; decide +kernel
theorem sem_recv {off : Fin 1 → ℕ} (k : Fin 32) (h : off = ![k.val]) (inb) :
    ((cc0_scratch4.slice (Rect.unit (s := S32) off S1.size inb)).squeeze S_ squeezes_S1_S_).sem = recvS k := by
  subst h; revert k; decide +kernel
theorem sem_chunk (b : Fin 4) (inb) :
    ((cc0_scratch5.slice (Rect.unit (s := S4) ![b.val] S1.size inb)).squeeze S_ squeezes_S1_S_).sem = wS b := by
  revert b; decide +kernel

/-! ## Credits of the buffers the waits name -/

theorem credit_slot {off : Fin 3 → ℕ} {inb} :
    ((slM.slice (Rect.unit (s := S32x256x256) off S1x256x256.size inb) (fun _ => rfl)).squeeze S256x256 squeezes_S1x256x256_S256x256).view.dmaCredit = NB := rfl
theorem credit_chunk {off : Fin 3 → ℕ} {inb} :
    ((bfM.slice (Rect.unit (s := S4x256x4096) off S1x256x4096.size inb) (fun _ => rfl)).squeeze S256x4096 squeezes_S1x256x4096_S256x4096).view.dmaCredit = NW := rfl
theorem credit_rows {off : Fin 2 → ℕ} {inb} :
    (xbM.slice (Rect.unit (s := S8192x256) off S256x256.size inb) (fun _ => rfl)).view.dmaCredit = NB := rfl

variable (X : Dev nD → S8192x256.Idx → F .f32) (W : Dev nD → S8192x4096.Idx → F .f32)
variable (K : GSem nD τ sig → ℕ) (c : Fin 32)

theorem run_bind {α β : Type} (p : Prog (TpuEff nD τ sig (Elt F) Λ₀ .tc) α) (k : α → Prog (TpuEff nD τ sig (Elt F) Λ₀ .tc) β) (Q : β → sProp 𝕄) :
    run c (p >>= k) Q = run c p (fun v => run c (k v) Q) := by
  unfold run
  rw [wp_bind]

theorem run_next {α : Type} {p : Prog (TpuEff nD τ sig (Elt F) Λ₀ .tc) α} {P P' : sProp 𝕄} {Q : α → sProp 𝕄}
    (h1 : P ⊢ run c p fun _ => P') (h2 : ∀ v, P' ⊢ Q v) : P ⊢ run c p Q :=
  h1.trans (Idealize.SL.Sem.wp_mono _ _ _ h2)

theorem run_seq {α β : Type} {p : Prog (TpuEff nD τ sig (Elt F) Λ₀ .tc) α} {k : α → Prog (TpuEff nD τ sig (Elt F) Λ₀ .tc) β} {P : sProp 𝕄} (P' : sProp 𝕄) {Q : β → sProp 𝕄}
    (h1 : P ⊢ run c p fun _ => P') (h2 : ∀ v, P' ⊢ run c (k v) Q) : P ⊢ run c (p >>= k) Q := by
  unfold run
  rw [wp_bind]
  exact h1.trans (Idealize.SL.Sem.wp_mono _ _ _ fun v => h2 v)

theorem run_split {α β : Type} {p : Prog (TpuEff nD τ sig (Elt F) Λ₀ .tc) α} {k : α → Prog (TpuEff nD τ sig (Elt F) Λ₀ .tc) β} (P' : sProp 𝕄) {Q : β → sProp 𝕄} :
    (run c p fun _ => P') ⊢ iprop((∀ v, P' -∗ run c (k v) Q) -∗ run c (p >>= k) Q) := by
  unfold run
  rw [wp_bind]
  exact wp_wand _ _ _

theorem run_assume {α : Type} {φ : Prop} {d : Decidable φ} (h : φ) {k : PLift φ → BProg F α} {Q : α → sProp 𝕄} :
    run c (k ⟨h⟩) Q ⊢ run c (Prog.op (.assume φ d) k) Q := by
  unfold run
  rw [wp_assume_of (d := d) _ _ _ _ h]

theorem run_done {α : Type} (a : α) (Q : α → sProp 𝕄) : Q a ⊢ run c (Prog.ret a : BProg F α) Q := by
  unfold run
  rw [wp_ret]
  exact BI.fupd_intro

theorem run_device {α : Type} (k : Dev nD → BProg F α) (Q : α → sProp 𝕄) : run c (k c) Q ⊢ run c (Prog.op .deviceId k) Q := by
  unfold run
  rw [wp_deviceId]

theorem run_ret {α : Type} (a : α) (P : sProp 𝕄) : P ⊢ run c (Prog.ret a : BProg F α) fun _ => P := by
  unfold run
  rw [wp_ret]
  exact BI.fupd_intro

theorem zero2 : (![0, 0] : Fin 2 → ℕ) = fun _ => 0 := by
  funext a
  match a with
  | ⟨0, _⟩ => rfl
  | ⟨1, _⟩ => rfl

/-! ## The output block -/

def outPts (f : S256x4096.Idx → F .f32) : sProp 𝕄 := iprop((c : Thread nD τ).loc cc0_stg2_0 ↦{fullShare} f)

theorem wp_out_load {α : Type} (f : S256x4096.Idx → F .f32) {inb hl} (k : (S256x4096.Idx → Elt F .f32) → BProg F α) (Q : α → sProp 𝕄) :
    outPts c f ⊢ iprop((outPts c f -∗ run c (k f) Q)
      -∗ run c (Prog.op (.load oM (Rect.unit (s := S256x4096) ![0, 0] S256x4096.size inb).toLoadRect hl) k) Q) := by
  have hw := wp_load_rect (Γ := .empty) (defs := defs₀ (F := F)) 𝒱₀ (c : Thread nD τ) none Set.univ (m := oM)
    (r := Rect.unit (s := S256x4096) ![0, 0] S256x4096.size inb) (hl := hl) (k := k) (Q := Q) (q := fullShare) (f := f) (Finset.subset_univ _)
  have e : (oM.access (Rect.unit (s := S256x4096) ![0, 0] S256x4096.size inb)).read (Elt F) f = f := by
    funext i
    refine congrArg f (?_ : (Rect.unit (s := S256x4096) ![0, 0] S256x4096.size inb).emb i = i)
    funext a
    apply Fin.ext
    rw [Rect.emb_apply]
    match a with
    | ⟨0, _⟩ => simp
    | ⟨1, _⟩ => simp
  rw [show (oM.access (Rect.unit (s := S256x4096) ![0, 0] S256x4096.size inb)).read (Elt F) f = f from e] at hw
  exact hw

theorem wp_out_store {α : Type} (f g : S256x4096.Idx → F .f32) {inb hx hm} (k : PUnit → BProg F α) (Q : α → sProp 𝕄) :
    outPts c f ⊢ iprop((outPts c g -∗ run c (k ⟨⟩) Q)
      -∗ run c (Prog.op (.store oM (Rect.unit (s := S256x4096) ![0, 0] S256x4096.size inb) g Finset.univ hx hm) k) Q) := by
  have hw := wp_store (Γ := .empty) (defs := defs₀ (F := F)) 𝒱₀ (c : Thread nD τ) none Set.univ (m := oM)
    (r := Rect.unit (s := S256x4096) ![0, 0] S256x4096.size inb) (w := g) (Mk := Finset.univ) (hx := hx) (hm := hm) (k := k) (Q := Q) (f := f) (Finset.subset_univ _)
  rw [show (oM.access (Rect.unit (s := S256x4096) ![0, 0] S256x4096.size inb)).write (Elt F) f g Finset.univ = g from
    Memref.write_access_unit_zero_univ (Elt F) cc0_stg2_0 zero2 inb f g] at hw
  exact hw

/-! ## The main loop's state -/

/-- The output block after `s` steps. -/
def acc : ℕ → S256x4096.Idx → F .f32
  | 0 => k0_pay6
  | s + 1 => k0_pay1 (acc s) (slotOf (xbOf X (ord c s)) c) (chunkOf (W c) (ord c s))

/-- Chunks started before step `s`. -/
abbrev ahead (s : ℕ) : ℕ := min (s + 3) 32

def loopSt (s n a : ℕ) (f : S256x4096.Idx → F .f32) : sProp 𝕄 :=
  iprop(records X W K ∗ ordPts c ∗ owing c 0 ∗ chunkSt W c s n ∗ recvSt X c a ∗ outPts c f)

end Cert.KernelIdeal.A2A

end
-- ==== Proof.Enter.lean ====
/-
  The body up to the first two chunk copies: every other device's barrier semaphore is signalled, the device's own 31
  units are waited for, and the copies of the chunks of steps 0 and 1 are started.
-/
module

public import proofs.«01_k».proof.Proof.Moves

@[expose] public section

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

variable (X : Dev nD → S8192x256.Idx → F .f32) (W : Dev nD → S8192x4096.Idx → F .f32)
variable (K : GSem nD τ sig → ℕ) (c : Fin 32)

theorem signal_body (i : Fin k0_t1_loop.trips) (ha0 : (ordM).IsWhole) (ha1 : (xM).IsWhole) (ha2 : (wM).IsWhole) (ha3 : (oM).IsWhole) (ha4 : (xbM).IsWhole) (ha5 : (slM).IsWhole) (ha6 : (bfM).IsWhole) (u : Unit) :
    iprop(records X W K ∗ ownReached c ∗ ordPts c ∗ sigSt c (i.val + 1))
      ⊢ run c (k0_t1_body ordM ha0 xM ha1 wM ha2 oM ha3 xbM ha4 slM ha5 bfM ha6 cc0_scratch3 cc0_scratch4 cc0_scratch5 (SemArray.scalar (sig.barrier 0 rfl)) i u) fun _ =>
        iprop(records X W K ∗ ownReached c ∗ ordPts c ∗ sigSt c (i.val + 1 + 1)) := by
  have hi : i.val + 1 < 32 := by have := i.isLt.trans_eq trips1; omega
  unfold k0_t1_body
  simp only [smemLoad, smemLoadElt, semSignalWord, Prog.lift, Prog.bind_op, Prog.bind_ret, Prog.pure_eq_ret]
  iintro ⟨#HR, #HO, Hord, HS⟩
  iapply (wp_order c (i.val + 1) hi (off1_eq i)) $$ Hord
  iintro Hord
  iapply (run_assume c (chk1_wd (ord c (i.val + 1))))
  iapply (wp_signal_step X W K c (a := i.val + 1) (by omega) hi (Fin.ext (dev1_wd (ord c (i.val + 1)))) rfl) $$ [HS]
  · isplitr; · iexact HR
    isplitr; · iexact HO
    iexact HS
  iintro HS
  iapply (run_done c _ _)
  isplitr; · iexact HR
  isplitr; · iexact HO
  isplitl [Hord]; · iexact Hord
  iexact HS

theorem enter (ha0 : (ordM).IsWhole) (ha1 : (xM).IsWhole) (ha2 : (wM).IsWhole) (ha3 : (oM).IsWhole) (ha4 : (xbM).IsWhole) (ha5 : (slM).IsWhole) (ha6 : (bfM).IsWhole) :
    iprop(records X W K ∗ ownReached c ∗ levAts L lv ∗ ordPts c ∗ sigSt c 1 ∗ cred (tallyAt (barCell c) () 31) ∗ atPos ER (barCell c) 0 ∅ 0 ∗ chunkSt W c 0 0)
      ⊢ run c (k0_part4 ordM ha0 xM ha1 wM ha2 oM ha3 xbM ha4 slM ha5 bfM ha6 cc0_scratch3 cc0_scratch4 cc0_scratch5) fun v =>
        iprop(⌜v.1 = c ∧ v.2.2.1 = wd (ord c 2)⌝ ∗ ordPts c ∗ owing c (RO c 1) ∗ atPos ER (barCell c) 1 ∅ 0 ∗ (bigSep (Finset.Ico 1 32) fun j => barPay c (ord c j)) ∗ chunkSt W c 0 2) := by
  rw [k0_part4_eq_skeleton]
  unfold k0_part4_skel
  simp only [smemLoad, smemLoadElt, semWaitWord, Prog.lift, Prog.bind_op, Prog.bind_ret, Prog.pure_eq_ret]
  iintro ⟨#HR, #HO, #Hl, Hord, HS, Hc, Ha, HC⟩
  iapply (run_device c)
  iapply (Scf.wp_for_bind frame (wpE (defs₀ (F := F)) 𝒱₀ (c : Thread nD τ) none) Set.univ _ _ _ k0_t1_ok _ _
    (fun k (_ : Unit) => iprop(records X W K ∗ ownReached c ∗ ordPts c ∗ sigSt c (k + 1)))
    (fun i u => signal_body X W K c i ha0 ha1 ha2 ha3 ha4 ha5 ha6 u)) $$ [Hord HS]
  · isplitr; · iexact HR
    isplitr; · iexact HO
    isplitl [Hord]; · iexact Hord
    iexact HS
  iintro %u ⟨-, -, Hord, HS⟩
  ihave HS := (show sigSt c (k0_t1_loop.trips + 1) ⊢ (owing c (RO c 1) : sProp 𝕄) by
    rw [trips1]
    unfold sigSt
    rw [none_left, BO_end, add_zero]
    iintro ⟨-, H⟩
    iexact H) $$ HS
  iapply (wp_bar_wait X W K c rfl) $$ [HS Hc Ha]
  · isplitr; · iexact HR
    isplitr; · iexact Hl
    isplitl [HS]; · iexact HS
    isplitl [Hc] <;> iassumption
  iintro ⟨HW, Ha, Hp⟩
  iapply (wp_order c 0 (by decide) rfl) $$ Hord
  iintro Hord
  iapply (run_assume c (chk2_wd (ord c 0)))
  iapply (wp_chunk_start X W K c (s := 0) (n := 0) (by decide) (by decide) (by decide) (off2_wd (ord c 0)) (b := 0) rfl (sem_chunk 0 _)) $$ [HC]
  · isplitr; · iexact HR
    iexact HC
  iintro HC
  iapply (wp_order c 1 (by decide) rfl) $$ Hord
  iintro Hord
  iapply (run_assume c (chk3_wd (ord c 1)))
  iapply (wp_chunk_start X W K c (s := 0) (n := 1) (by decide) (by decide) (by decide) (off3_wd (ord c 1)) (b := 1) rfl (sem_chunk 1 _)) $$ [HC]
  · isplitr; · iexact HR
    iexact HC
  iintro HC
  iapply (wp_order c 2 (by decide) rfl) $$ Hord
  iintro Hord
  iapply (run_assume c (chk4_wd (ord c 2)))
  iapply (run_done c _ _)
  isplitr; · ipureintro; exact ⟨rfl, rfl⟩
  isplitl [Hord]; · iexact Hord
  isplitl [HW]; · iexact HW
  isplitl [Ha]; · iexact Ha
  isplitl [Hp]; · iexact Hp
  iexact HC

end Cert.KernelIdeal.A2A

end
-- ==== Proof.Loop.lean ====
/-
  One step of the main loop, in each of the four places the loop's body holds one: the copy of a later chunk is started
  where there is one, the step's chunk and block are waited for, and their product is added to the output block.
-/
module

public import proofs.«01_k».proof.Proof.Moves

@[expose] public section

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

variable (X : Dev nD → S8192x256.Idx → F .f32) (W : Dev nD → S8192x4096.Idx → F .f32)
variable (K : GSem nD τ sig → ℕ) (c : Fin 32)

theorem step_pos {c : Fin 32} {s : ℕ} (h : ord c s ≠ c) : 1 ≤ s := by
  rcases Nat.eq_zero_or_pos s with rfl | h0
  · exact absurd (ord_zero c) h
  · exact h0
theorem step_zero {c : Fin 32} {s : ℕ} (hs : s < 32) (h : ord c s = c) : s = 0 := by
  by_contra h0
  exact ord_ne c (by omega) hs h

theorem step0 (i : Fin k0_t3_loop.trips) (ha0 : (ordM).IsWhole) (ha1 : (xM).IsWhole) (ha2 : (wM).IsWhole) (ha3 : (oM).IsWhole) (ha4 : (xbM).IsWhole) (ha5 : (slM).IsWhole) (ha6 : (bfM).IsWhole) (v2 a b : BitVec 32) :
    (loopSt X W K c (4 * i.val + 0) (ahead (4 * i.val + 0)) (max (4 * i.val + 0) 1) (acc X W c (4 * i.val + 0)))
      ⊢ run c (k0_part1 ordM ha0 xM ha1 wM ha2 oM ha3 xbM ha4 slM ha5 bfM ha6 cc0_scratch3 cc0_scratch4 cc0_scratch5 c v2 a b i) fun _ => (loopSt X W K c (4 * i.val + 0 + 1) (ahead (4 * i.val + 0 + 1)) (max (4 * i.val + 0 + 1) 1) (acc X W c (4 * i.val + 0 + 1))) := by
  rw [k0_part1_eq_skeleton]
  unfold k0_part1_skel
  have hi : i.val < 8 := i.isLt.trans_eq trips3
  have hs : 4 * i.val + 0 < 32 := by omega
  have hb : (0 : Fin 4) = bufOf (4 * i.val + 0) := Fin.ext (show 0 = (4 * i.val + 0) % 4 by omega)
  simp only [smemLoad, smemLoadElt, Prog.lift, Prog.bind_op, Prog.bind_ret, Prog.pure_eq_ret]
  unfold loopSt
  iintro ⟨#HR, HO, HW, HC, HV, Hout⟩
  by_cases h : k0_cond1 i = 1#1
  · have hn : 4 * i.val + 0 + 3 < 32 := (cond1_iff i).1 h
    have e1 : ahead (4 * i.val + 0) = 4 * i.val + 0 + 3 := by unfold ahead; omega
    have e2 : ahead (4 * i.val + 0 + 1) = 4 * i.val + 0 + 3 + 1 := by unfold ahead; omega
    rw [dif_pos h, e1]
    iapply (wp_order c (4 * i.val + 0 + 3) hn (off12_eq i)) $$ HO
    iintro HO
    iapply (run_assume c (chk6_wd i (ord c (4 * i.val + 0 + 3))))
    iapply (wp_chunk_start X W K c (s := 4 * i.val + 0) (n := 4 * i.val + 0 + 3) (by omega) (by omega) hn
      (off13_wd (ord c (4 * i.val + 0 + 3))) (b := 3) (Fin.ext (show 3 = (4 * i.val + 0 + 3) % 4 by omega)) (sem_chunk 3 _)) $$ [HC]
    · isplitr; · iexact HR
      iexact HC
    iintro HC
    rw [← e2]
    iapply (wp_order c (4 * i.val + 0) hs (off14_eq i)) $$ HO
    iintro HO
    iapply (run_assume c (chk8_wd c (ord c (4 * i.val + 0))))
    iapply (wp_order c (4 * i.val + 0) hs (off14_eq i)) $$ HO
    iintro HO
    iapply (run_assume c (chk7_wd (ord c (4 * i.val + 0))))
    iapply (wp_chunk_wait X W K c (s := 4 * i.val + 0) (n := ahead (4 * i.val + 0 + 1)) (by unfold ahead; omega) (by unfold ahead; omega) hs
      ((sem_chunk 0 _).trans (congrArg wS hb)) credit_chunk) $$ [HW HC]
    · isplitr; · iexact HR
      isplitl [HW] <;> iassumption
    iintro ⟨HW, Hb, HC⟩
    by_cases h2 : k0_cond2 c (wd (ord c (4 * i.val + 0))) = 1#1
    · have hne := (cond2_iff c (ord c (4 * i.val + 0))).1 h2
      have h1 : 1 ≤ 4 * i.val + 0 := step_pos hne
      rw [dif_pos h2, show max (4 * i.val + 0) 1 = 4 * i.val + 0 by omega, show max (4 * i.val + 0 + 1) 1 = 4 * i.val + 0 + 1 by omega]
      iapply (wp_recv_wait X W K c h1 hs (sem_recv (ord c (4 * i.val + 0)) (off16_wd _) _) credit_slot) $$ [HW HV]
      · isplitr; · iexact HR
        isplitl [HW] <;> iassumption
      iintro ⟨HW, HV⟩
      iapply (wp_out_load c (acc X W c (4 * i.val + 0))) $$ Hout
      iintro Hout
      iapply (wp_slot_load X c (a := 4 * i.val + 0 + 1) (j := 4 * i.val + 0) (by omega) (off18_wd (ord c (4 * i.val + 0)))) $$ HV
      iintro HV
      iapply (wp_chunk_load W c (s := 4 * i.val + 0) hb (off := ![0, 0, 0]) rfl) $$ Hb
      iintro Hb
      iapply (wp_out_load c (acc X W c (4 * i.val + 0))) $$ Hout
      iintro Hout
      iapply (wp_out_store c (acc X W c (4 * i.val + 0)) (acc X W c (4 * i.val + 0 + 1))) $$ Hout
      iintro Hout
      iapply (run_done c _ _)
      isplitr; · iexact HR
      isplitl [HO]; · iexact HO
      isplitl [HW]; · iexact HW
      isplitl [HC Hb]
      · iapply HC
        iexists (bufAt (W c) (ord c (4 * i.val + 0)))
        iexact Hb
      isplitl [HV]; · iexact HV
      iexact Hout
    · have h0 : 4 * i.val + 0 = 0 := step_zero hs (Classical.not_not.1 fun hne => h2 ((cond2_iff c (ord c (4 * i.val + 0))).2 hne))
      rw [dif_neg h2, show max (4 * i.val + 0 + 1) 1 = max (4 * i.val + 0) 1 by omega]
      iapply (wp_out_load c (acc X W c (4 * i.val + 0))) $$ Hout
      iintro Hout
      iapply (wp_slot_load X c (a := max (4 * i.val + 0) 1) (j := 4 * i.val + 0) (by omega) (off18_wd (ord c (4 * i.val + 0)))) $$ HV
      iintro HV
      iapply (wp_chunk_load W c (s := 4 * i.val + 0) hb (off := ![0, 0, 0]) rfl) $$ Hb
      iintro Hb
      iapply (wp_out_load c (acc X W c (4 * i.val + 0))) $$ Hout
      iintro Hout
      iapply (wp_out_store c (acc X W c (4 * i.val + 0)) (acc X W c (4 * i.val + 0 + 1))) $$ Hout
      iintro Hout
      iapply (run_done c _ _)
      isplitr; · iexact HR
      isplitl [HO]; · iexact HO
      isplitl [HW]; · iexact HW
      isplitl [HC Hb]
      · iapply HC
        iexists (bufAt (W c) (ord c (4 * i.val + 0)))
        iexact Hb
      isplitl [HV]; · iexact HV
      iexact Hout
  · have hn : ¬ 4 * i.val + 0 + 3 < 32 := fun hn => h ((cond1_iff i).2 hn)
    have e1 : ahead (4 * i.val + 0) = ahead (4 * i.val + 0 + 1) := by unfold ahead; omega
    rw [dif_neg h, e1]
    iapply (wp_order c (4 * i.val + 0) hs (off14_eq i)) $$ HO
    iintro HO
    iapply (run_assume c (chk8_wd c (ord c (4 * i.val + 0))))
    iapply (wp_order c (4 * i.val + 0) hs (off14_eq i)) $$ HO
    iintro HO
    iapply (run_assume c (chk7_wd (ord c (4 * i.val + 0))))
    iapply (wp_chunk_wait X W K c (s := 4 * i.val + 0) (n := ahead (4 * i.val + 0 + 1)) (by unfold ahead; omega) (by unfold ahead; omega) hs
      ((sem_chunk 0 _).trans (congrArg wS hb)) credit_chunk) $$ [HW HC]
    · isplitr; · iexact HR
      isplitl [HW] <;> iassumption
    iintro ⟨HW, Hb, HC⟩
    by_cases h2 : k0_cond2 c (wd (ord c (4 * i.val + 0))) = 1#1
    · have hne := (cond2_iff c (ord c (4 * i.val + 0))).1 h2
      have h1 : 1 ≤ 4 * i.val + 0 := step_pos hne
      rw [dif_pos h2, show max (4 * i.val + 0) 1 = 4 * i.val + 0 by omega, show max (4 * i.val + 0 + 1) 1 = 4 * i.val + 0 + 1 by omega]
      iapply (wp_recv_wait X W K c h1 hs (sem_recv (ord c (4 * i.val + 0)) (off16_wd _) _) credit_slot) $$ [HW HV]
      · isplitr; · iexact HR
        isplitl [HW] <;> iassumption
      iintro ⟨HW, HV⟩
      iapply (wp_out_load c (acc X W c (4 * i.val + 0))) $$ Hout
      iintro Hout
      iapply (wp_slot_load X c (a := 4 * i.val + 0 + 1) (j := 4 * i.val + 0) (by omega) (off18_wd (ord c (4 * i.val + 0)))) $$ HV
      iintro HV
      iapply (wp_chunk_load W c (s := 4 * i.val + 0) hb (off := ![0, 0, 0]) rfl) $$ Hb
      iintro Hb
      iapply (wp_out_load c (acc X W c (4 * i.val + 0))) $$ Hout
      iintro Hout
      iapply (wp_out_store c (acc X W c (4 * i.val + 0)) (acc X W c (4 * i.val + 0 + 1))) $$ Hout
      iintro Hout
      iapply (run_done c _ _)
      isplitr; · iexact HR
      isplitl [HO]; · iexact HO
      isplitl [HW]; · iexact HW
      isplitl [HC Hb]
      · iapply HC
        iexists (bufAt (W c) (ord c (4 * i.val + 0)))
        iexact Hb
      isplitl [HV]; · iexact HV
      iexact Hout
    · have h0 : 4 * i.val + 0 = 0 := step_zero hs (Classical.not_not.1 fun hne => h2 ((cond2_iff c (ord c (4 * i.val + 0))).2 hne))
      rw [dif_neg h2, show max (4 * i.val + 0 + 1) 1 = max (4 * i.val + 0) 1 by omega]
      iapply (wp_out_load c (acc X W c (4 * i.val + 0))) $$ Hout
      iintro Hout
      iapply (wp_slot_load X c (a := max (4 * i.val + 0) 1) (j := 4 * i.val + 0) (by omega) (off18_wd (ord c (4 * i.val + 0)))) $$ HV
      iintro HV
      iapply (wp_chunk_load W c (s := 4 * i.val + 0) hb (off := ![0, 0, 0]) rfl) $$ Hb
      iintro Hb
      iapply (wp_out_load c (acc X W c (4 * i.val + 0))) $$ Hout
      iintro Hout
      iapply (wp_out_store c (acc X W c (4 * i.val + 0)) (acc X W c (4 * i.val + 0 + 1))) $$ Hout
      iintro Hout
      iapply (run_done c _ _)
      isplitr; · iexact HR
      isplitl [HO]; · iexact HO
      isplitl [HW]; · iexact HW
      isplitl [HC Hb]
      · iapply HC
        iexists (bufAt (W c) (ord c (4 * i.val + 0)))
        iexact Hb
      isplitl [HV]; · iexact HV
      iexact Hout

theorem step1 (i : Fin k0_t3_loop.trips) (ha0 : (ordM).IsWhole) (ha1 : (xM).IsWhole) (ha2 : (wM).IsWhole) (ha3 : (oM).IsWhole) (ha4 : (xbM).IsWhole) (ha5 : (slM).IsWhole) (ha6 : (bfM).IsWhole) (v2 a b : BitVec 32) :
    (loopSt X W K c (4 * i.val + 1) (ahead (4 * i.val + 1)) (max (4 * i.val + 1) 1) (acc X W c (4 * i.val + 1)))
      ⊢ run c (k0_part2 ordM ha0 xM ha1 wM ha2 oM ha3 xbM ha4 slM ha5 bfM ha6 cc0_scratch3 cc0_scratch4 cc0_scratch5 c v2 i a b) fun _ => (loopSt X W K c (4 * i.val + 1 + 1) (ahead (4 * i.val + 1 + 1)) (max (4 * i.val + 1 + 1) 1) (acc X W c (4 * i.val + 1 + 1))) := by
  rw [k0_part2_eq_skeleton]
  unfold k0_part2_skel
  have hi : i.val < 8 := i.isLt.trans_eq trips3
  have hs : 4 * i.val + 1 < 32 := by omega
  have hb : (1 : Fin 4) = bufOf (4 * i.val + 1) := Fin.ext (show 1 = (4 * i.val + 1) % 4 by omega)
  simp only [smemLoad, smemLoadElt, Prog.lift, Prog.bind_op, Prog.bind_ret, Prog.pure_eq_ret]
  unfold loopSt
  iintro ⟨#HR, HO, HW, HC, HV, Hout⟩
  by_cases h : k0_cond3 i = 1#1
  · have hn : 4 * i.val + 1 + 3 < 32 := (cond3_iff i).1 h
    have e1 : ahead (4 * i.val + 1) = 4 * i.val + 1 + 3 := by unfold ahead; omega
    have e2 : ahead (4 * i.val + 1 + 1) = 4 * i.val + 1 + 3 + 1 := by unfold ahead; omega
    rw [dif_pos h, e1]
    iapply (wp_order c (4 * i.val + 1 + 3) hn (off19_eq i)) $$ HO
    iintro HO
    iapply (run_assume c (chk9_wd i (ord c (4 * i.val + 1 + 3))))
    iapply (wp_chunk_start X W K c (s := 4 * i.val + 1) (n := 4 * i.val + 1 + 3) (by omega) (by omega) hn
      (off20_wd (ord c (4 * i.val + 1 + 3))) (b := 0) (Fin.ext (show 0 = (4 * i.val + 1 + 3) % 4 by omega)) (sem_chunk 0 _)) $$ [HC]
    · isplitr; · iexact HR
      iexact HC
    iintro HC
    rw [← e2]
    iapply (wp_order c (4 * i.val + 1) hs (off21_eq i)) $$ HO
    iintro HO
    iapply (run_assume c (chk11_wd c (ord c (4 * i.val + 1))))
    iapply (wp_order c (4 * i.val + 1) hs (off21_eq i)) $$ HO
    iintro HO
    iapply (run_assume c (chk10_wd (ord c (4 * i.val + 1))))
    iapply (wp_chunk_wait X W K c (s := 4 * i.val + 1) (n := ahead (4 * i.val + 1 + 1)) (by unfold ahead; omega) (by unfold ahead; omega) hs
      ((sem_chunk 1 _).trans (congrArg wS hb)) credit_chunk) $$ [HW HC]
    · isplitr; · iexact HR
      isplitl [HW] <;> iassumption
    iintro ⟨HW, Hb, HC⟩
    by_cases h2 : k0_cond4 c (wd (ord c (4 * i.val + 1))) = 1#1
    · have hne := (cond4_iff c (ord c (4 * i.val + 1))).1 h2
      have h1 : 1 ≤ 4 * i.val + 1 := step_pos hne
      rw [dif_pos h2, show max (4 * i.val + 1) 1 = 4 * i.val + 1 by omega, show max (4 * i.val + 1 + 1) 1 = 4 * i.val + 1 + 1 by omega]
      iapply (wp_recv_wait X W K c h1 hs (sem_recv (ord c (4 * i.val + 1)) (off23_wd _) _) credit_slot) $$ [HW HV]
      · isplitr; · iexact HR
        isplitl [HW] <;> iassumption
      iintro ⟨HW, HV⟩
      iapply (wp_out_load c (acc X W c (4 * i.val + 1))) $$ Hout
      iintro Hout
      iapply (wp_slot_load X c (a := 4 * i.val + 1 + 1) (j := 4 * i.val + 1) (by omega) (off25_wd (ord c (4 * i.val + 1)))) $$ HV
      iintro HV
      iapply (wp_chunk_load W c (s := 4 * i.val + 1) hb (off := ![1, 0, 0]) rfl) $$ Hb
      iintro Hb
      iapply (wp_out_load c (acc X W c (4 * i.val + 1))) $$ Hout
      iintro Hout
      iapply (wp_out_store c (acc X W c (4 * i.val + 1)) (acc X W c (4 * i.val + 1 + 1))) $$ Hout
      iintro Hout
      iapply (run_done c _ _)
      isplitr; · iexact HR
      isplitl [HO]; · iexact HO
      isplitl [HW]; · iexact HW
      isplitl [HC Hb]
      · iapply HC
        iexists (bufAt (W c) (ord c (4 * i.val + 1)))
        iexact Hb
      isplitl [HV]; · iexact HV
      iexact Hout
    · have h0 : 4 * i.val + 1 = 0 := step_zero hs (Classical.not_not.1 fun hne => h2 ((cond4_iff c (ord c (4 * i.val + 1))).2 hne))
      rw [dif_neg h2, show max (4 * i.val + 1 + 1) 1 = max (4 * i.val + 1) 1 by omega]
      iapply (wp_out_load c (acc X W c (4 * i.val + 1))) $$ Hout
      iintro Hout
      iapply (wp_slot_load X c (a := max (4 * i.val + 1) 1) (j := 4 * i.val + 1) (by omega) (off25_wd (ord c (4 * i.val + 1)))) $$ HV
      iintro HV
      iapply (wp_chunk_load W c (s := 4 * i.val + 1) hb (off := ![1, 0, 0]) rfl) $$ Hb
      iintro Hb
      iapply (wp_out_load c (acc X W c (4 * i.val + 1))) $$ Hout
      iintro Hout
      iapply (wp_out_store c (acc X W c (4 * i.val + 1)) (acc X W c (4 * i.val + 1 + 1))) $$ Hout
      iintro Hout
      iapply (run_done c _ _)
      isplitr; · iexact HR
      isplitl [HO]; · iexact HO
      isplitl [HW]; · iexact HW
      isplitl [HC Hb]
      · iapply HC
        iexists (bufAt (W c) (ord c (4 * i.val + 1)))
        iexact Hb
      isplitl [HV]; · iexact HV
      iexact Hout
  · have hn : ¬ 4 * i.val + 1 + 3 < 32 := fun hn => h ((cond3_iff i).2 hn)
    have e1 : ahead (4 * i.val + 1) = ahead (4 * i.val + 1 + 1) := by unfold ahead; omega
    rw [dif_neg h, e1]
    iapply (wp_order c (4 * i.val + 1) hs (off21_eq i)) $$ HO
    iintro HO
    iapply (run_assume c (chk11_wd c (ord c (4 * i.val + 1))))
    iapply (wp_order c (4 * i.val + 1) hs (off21_eq i)) $$ HO
    iintro HO
    iapply (run_assume c (chk10_wd (ord c (4 * i.val + 1))))
    iapply (wp_chunk_wait X W K c (s := 4 * i.val + 1) (n := ahead (4 * i.val + 1 + 1)) (by unfold ahead; omega) (by unfold ahead; omega) hs
      ((sem_chunk 1 _).trans (congrArg wS hb)) credit_chunk) $$ [HW HC]
    · isplitr; · iexact HR
      isplitl [HW] <;> iassumption
    iintro ⟨HW, Hb, HC⟩
    by_cases h2 : k0_cond4 c (wd (ord c (4 * i.val + 1))) = 1#1
    · have hne := (cond4_iff c (ord c (4 * i.val + 1))).1 h2
      have h1 : 1 ≤ 4 * i.val + 1 := step_pos hne
      rw [dif_pos h2, show max (4 * i.val + 1) 1 = 4 * i.val + 1 by omega, show max (4 * i.val + 1 + 1) 1 = 4 * i.val + 1 + 1 by omega]
      iapply (wp_recv_wait X W K c h1 hs (sem_recv (ord c (4 * i.val + 1)) (off23_wd _) _) credit_slot) $$ [HW HV]
      · isplitr; · iexact HR
        isplitl [HW] <;> iassumption
      iintro ⟨HW, HV⟩
      iapply (wp_out_load c (acc X W c (4 * i.val + 1))) $$ Hout
      iintro Hout
      iapply (wp_slot_load X c (a := 4 * i.val + 1 + 1) (j := 4 * i.val + 1) (by omega) (off25_wd (ord c (4 * i.val + 1)))) $$ HV
      iintro HV
      iapply (wp_chunk_load W c (s := 4 * i.val + 1) hb (off := ![1, 0, 0]) rfl) $$ Hb
      iintro Hb
      iapply (wp_out_load c (acc X W c (4 * i.val + 1))) $$ Hout
      iintro Hout
      iapply (wp_out_store c (acc X W c (4 * i.val + 1)) (acc X W c (4 * i.val + 1 + 1))) $$ Hout
      iintro Hout
      iapply (run_done c _ _)
      isplitr; · iexact HR
      isplitl [HO]; · iexact HO
      isplitl [HW]; · iexact HW
      isplitl [HC Hb]
      · iapply HC
        iexists (bufAt (W c) (ord c (4 * i.val + 1)))
        iexact Hb
      isplitl [HV]; · iexact HV
      iexact Hout
    · have h0 : 4 * i.val + 1 = 0 := step_zero hs (Classical.not_not.1 fun hne => h2 ((cond4_iff c (ord c (4 * i.val + 1))).2 hne))
      rw [dif_neg h2, show max (4 * i.val + 1 + 1) 1 = max (4 * i.val + 1) 1 by omega]
      iapply (wp_out_load c (acc X W c (4 * i.val + 1))) $$ Hout
      iintro Hout
      iapply (wp_slot_load X c (a := max (4 * i.val + 1) 1) (j := 4 * i.val + 1) (by omega) (off25_wd (ord c (4 * i.val + 1)))) $$ HV
      iintro HV
      iapply (wp_chunk_load W c (s := 4 * i.val + 1) hb (off := ![1, 0, 0]) rfl) $$ Hb
      iintro Hb
      iapply (wp_out_load c (acc X W c (4 * i.val + 1))) $$ Hout
      iintro Hout
      iapply (wp_out_store c (acc X W c (4 * i.val + 1)) (acc X W c (4 * i.val + 1 + 1))) $$ Hout
      iintro Hout
      iapply (run_done c _ _)
      isplitr; · iexact HR
      isplitl [HO]; · iexact HO
      isplitl [HW]; · iexact HW
      isplitl [HC Hb]
      · iapply HC
        iexists (bufAt (W c) (ord c (4 * i.val + 1)))
        iexact Hb
      isplitl [HV]; · iexact HV
      iexact Hout

theorem step2 (i : Fin k0_t3_loop.trips) (ha0 : (ordM).IsWhole) (ha1 : (xM).IsWhole) (ha2 : (wM).IsWhole) (ha3 : (oM).IsWhole) (ha4 : (xbM).IsWhole) (ha5 : (slM).IsWhole) (ha6 : (bfM).IsWhole) (v2 a b d e : BitVec 32) :
    (loopSt X W K c (4 * i.val + 2) (ahead (4 * i.val + 2)) (max (4 * i.val + 2) 1) (acc X W c (4 * i.val + 2)))
      ⊢ run c (k0_part3 ordM ha0 xM ha1 wM ha2 oM ha3 xbM ha4 slM ha5 bfM ha6 cc0_scratch3 cc0_scratch4 cc0_scratch5 c v2 i a b d e) fun _ => (loopSt X W K c (4 * i.val + 2 + 1) (ahead (4 * i.val + 2 + 1)) (max (4 * i.val + 2 + 1) 1) (acc X W c (4 * i.val + 2 + 1))) := by
  rw [k0_part3_eq_skeleton]
  unfold k0_part3_skel
  have hi : i.val < 8 := i.isLt.trans_eq trips3
  have hs : 4 * i.val + 2 < 32 := by omega
  have hb : (2 : Fin 4) = bufOf (4 * i.val + 2) := Fin.ext (show 2 = (4 * i.val + 2) % 4 by omega)
  simp only [smemLoad, smemLoadElt, Prog.lift, Prog.bind_op, Prog.bind_ret, Prog.pure_eq_ret]
  unfold loopSt
  iintro ⟨#HR, HO, HW, HC, HV, Hout⟩
  by_cases h : k0_cond5 i = 1#1
  · have hn : 4 * i.val + 2 + 3 < 32 := (cond5_iff i).1 h
    have e1 : ahead (4 * i.val + 2) = 4 * i.val + 2 + 3 := by unfold ahead; omega
    have e2 : ahead (4 * i.val + 2 + 1) = 4 * i.val + 2 + 3 + 1 := by unfold ahead; omega
    rw [dif_pos h, e1]
    iapply (wp_order c (4 * i.val + 2 + 3) hn (off26_eq i)) $$ HO
    iintro HO
    iapply (run_assume c (chk12_wd i (ord c (4 * i.val + 2 + 3))))
    iapply (wp_chunk_start X W K c (s := 4 * i.val + 2) (n := 4 * i.val + 2 + 3) (by omega) (by omega) hn
      (off27_wd (ord c (4 * i.val + 2 + 3))) (b := 1) (Fin.ext (show 1 = (4 * i.val + 2 + 3) % 4 by omega)) (sem_chunk 1 _)) $$ [HC]
    · isplitr; · iexact HR
      iexact HC
    iintro HC
    rw [← e2]
    iapply (wp_order c (4 * i.val + 2) hs (off28_eq i)) $$ HO
    iintro HO
    iapply (run_assume c (chk14_wd c (ord c (4 * i.val + 2))))
    iapply (wp_order c (4 * i.val + 2) hs (off28_eq i)) $$ HO
    iintro HO
    iapply (run_assume c (chk13_wd (ord c (4 * i.val + 2))))
    iapply (wp_chunk_wait X W K c (s := 4 * i.val + 2) (n := ahead (4 * i.val + 2 + 1)) (by unfold ahead; omega) (by unfold ahead; omega) hs
      ((sem_chunk 2 _).trans (congrArg wS hb)) credit_chunk) $$ [HW HC]
    · isplitr; · iexact HR
      isplitl [HW] <;> iassumption
    iintro ⟨HW, Hb, HC⟩
    by_cases h2 : k0_cond6 c (wd (ord c (4 * i.val + 2))) = 1#1
    · have hne := (cond6_iff c (ord c (4 * i.val + 2))).1 h2
      have h1 : 1 ≤ 4 * i.val + 2 := step_pos hne
      rw [dif_pos h2, show max (4 * i.val + 2) 1 = 4 * i.val + 2 by omega, show max (4 * i.val + 2 + 1) 1 = 4 * i.val + 2 + 1 by omega]
      iapply (wp_recv_wait X W K c h1 hs (sem_recv (ord c (4 * i.val + 2)) (off30_wd _) _) credit_slot) $$ [HW HV]
      · isplitr; · iexact HR
        isplitl [HW] <;> iassumption
      iintro ⟨HW, HV⟩
      iapply (wp_out_load c (acc X W c (4 * i.val + 2))) $$ Hout
      iintro Hout
      iapply (wp_slot_load X c (a := 4 * i.val + 2 + 1) (j := 4 * i.val + 2) (by omega) (off32_wd (ord c (4 * i.val + 2)))) $$ HV
      iintro HV
      iapply (wp_chunk_load W c (s := 4 * i.val + 2) hb (off := ![2, 0, 0]) rfl) $$ Hb
      iintro Hb
      iapply (wp_out_load c (acc X W c (4 * i.val + 2))) $$ Hout
      iintro Hout
      iapply (wp_out_store c (acc X W c (4 * i.val + 2)) (acc X W c (4 * i.val + 2 + 1))) $$ Hout
      iintro Hout
      iapply (run_done c _ _)
      isplitr; · iexact HR
      isplitl [HO]; · iexact HO
      isplitl [HW]; · iexact HW
      isplitl [HC Hb]
      · iapply HC
        iexists (bufAt (W c) (ord c (4 * i.val + 2)))
        iexact Hb
      isplitl [HV]; · iexact HV
      iexact Hout
    · have h0 : 4 * i.val + 2 = 0 := step_zero hs (Classical.not_not.1 fun hne => h2 ((cond6_iff c (ord c (4 * i.val + 2))).2 hne))
      rw [dif_neg h2, show max (4 * i.val + 2 + 1) 1 = max (4 * i.val + 2) 1 by omega]
      iapply (wp_out_load c (acc X W c (4 * i.val + 2))) $$ Hout
      iintro Hout
      iapply (wp_slot_load X c (a := max (4 * i.val + 2) 1) (j := 4 * i.val + 2) (by omega) (off32_wd (ord c (4 * i.val + 2)))) $$ HV
      iintro HV
      iapply (wp_chunk_load W c (s := 4 * i.val + 2) hb (off := ![2, 0, 0]) rfl) $$ Hb
      iintro Hb
      iapply (wp_out_load c (acc X W c (4 * i.val + 2))) $$ Hout
      iintro Hout
      iapply (wp_out_store c (acc X W c (4 * i.val + 2)) (acc X W c (4 * i.val + 2 + 1))) $$ Hout
      iintro Hout
      iapply (run_done c _ _)
      isplitr; · iexact HR
      isplitl [HO]; · iexact HO
      isplitl [HW]; · iexact HW
      isplitl [HC Hb]
      · iapply HC
        iexists (bufAt (W c) (ord c (4 * i.val + 2)))
        iexact Hb
      isplitl [HV]; · iexact HV
      iexact Hout
  · have hn : ¬ 4 * i.val + 2 + 3 < 32 := fun hn => h ((cond5_iff i).2 hn)
    have e1 : ahead (4 * i.val + 2) = ahead (4 * i.val + 2 + 1) := by unfold ahead; omega
    rw [dif_neg h, e1]
    iapply (wp_order c (4 * i.val + 2) hs (off28_eq i)) $$ HO
    iintro HO
    iapply (run_assume c (chk14_wd c (ord c (4 * i.val + 2))))
    iapply (wp_order c (4 * i.val + 2) hs (off28_eq i)) $$ HO
    iintro HO
    iapply (run_assume c (chk13_wd (ord c (4 * i.val + 2))))
    iapply (wp_chunk_wait X W K c (s := 4 * i.val + 2) (n := ahead (4 * i.val + 2 + 1)) (by unfold ahead; omega) (by unfold ahead; omega) hs
      ((sem_chunk 2 _).trans (congrArg wS hb)) credit_chunk) $$ [HW HC]
    · isplitr; · iexact HR
      isplitl [HW] <;> iassumption
    iintro ⟨HW, Hb, HC⟩
    by_cases h2 : k0_cond6 c (wd (ord c (4 * i.val + 2))) = 1#1
    · have hne := (cond6_iff c (ord c (4 * i.val + 2))).1 h2
      have h1 : 1 ≤ 4 * i.val + 2 := step_pos hne
      rw [dif_pos h2, show max (4 * i.val + 2) 1 = 4 * i.val + 2 by omega, show max (4 * i.val + 2 + 1) 1 = 4 * i.val + 2 + 1 by omega]
      iapply (wp_recv_wait X W K c h1 hs (sem_recv (ord c (4 * i.val + 2)) (off30_wd _) _) credit_slot) $$ [HW HV]
      · isplitr; · iexact HR
        isplitl [HW] <;> iassumption
      iintro ⟨HW, HV⟩
      iapply (wp_out_load c (acc X W c (4 * i.val + 2))) $$ Hout
      iintro Hout
      iapply (wp_slot_load X c (a := 4 * i.val + 2 + 1) (j := 4 * i.val + 2) (by omega) (off32_wd (ord c (4 * i.val + 2)))) $$ HV
      iintro HV
      iapply (wp_chunk_load W c (s := 4 * i.val + 2) hb (off := ![2, 0, 0]) rfl) $$ Hb
      iintro Hb
      iapply (wp_out_load c (acc X W c (4 * i.val + 2))) $$ Hout
      iintro Hout
      iapply (wp_out_store c (acc X W c (4 * i.val + 2)) (acc X W c (4 * i.val + 2 + 1))) $$ Hout
      iintro Hout
      iapply (run_done c _ _)
      isplitr; · iexact HR
      isplitl [HO]; · iexact HO
      isplitl [HW]; · iexact HW
      isplitl [HC Hb]
      · iapply HC
        iexists (bufAt (W c) (ord c (4 * i.val + 2)))
        iexact Hb
      isplitl [HV]; · iexact HV
      iexact Hout
    · have h0 : 4 * i.val + 2 = 0 := step_zero hs (Classical.not_not.1 fun hne => h2 ((cond6_iff c (ord c (4 * i.val + 2))).2 hne))
      rw [dif_neg h2, show max (4 * i.val + 2 + 1) 1 = max (4 * i.val + 2) 1 by omega]
      iapply (wp_out_load c (acc X W c (4 * i.val + 2))) $$ Hout
      iintro Hout
      iapply (wp_slot_load X c (a := max (4 * i.val + 2) 1) (j := 4 * i.val + 2) (by omega) (off32_wd (ord c (4 * i.val + 2)))) $$ HV
      iintro HV
      iapply (wp_chunk_load W c (s := 4 * i.val + 2) hb (off := ![2, 0, 0]) rfl) $$ Hb
      iintro Hb
      iapply (wp_out_load c (acc X W c (4 * i.val + 2))) $$ Hout
      iintro Hout
      iapply (wp_out_store c (acc X W c (4 * i.val + 2)) (acc X W c (4 * i.val + 2 + 1))) $$ Hout
      iintro Hout
      iapply (run_done c _ _)
      isplitr; · iexact HR
      isplitl [HO]; · iexact HO
      isplitl [HW]; · iexact HW
      isplitl [HC Hb]
      · iapply HC
        iexists (bufAt (W c) (ord c (4 * i.val + 2)))
        iexact Hb
      isplitl [HV]; · iexact HV
      iexact Hout

set_option maxHeartbeats 8000000 in
theorem loop_body (i : Fin k0_t3_loop.trips) (ha0 : (ordM).IsWhole) (ha1 : (xM).IsWhole) (ha2 : (wM).IsWhole) (ha3 : (oM).IsWhole) (ha4 : (xbM).IsWhole) (ha5 : (slM).IsWhole) (ha6 : (bfM).IsWhole) (v2 : BitVec 32) (v19 : Elt F .i32) (hw) (u : Unit) :
    (loopSt X W K c (4 * i.val) (ahead (4 * i.val)) (max (4 * i.val) 1) (acc X W c (4 * i.val)))
      ⊢ run c (k0_t3_body ordM ha0 xM ha1 wM ha2 oM ha3 xbM ha4 slM ha5 bfM ha6 cc0_scratch3 cc0_scratch4 cc0_scratch5 c v2 v19 hw i u) fun _ => (loopSt X W K c (4 * i.val + 3 + 1) (ahead (4 * i.val + 3 + 1)) (max (4 * i.val + 3 + 1) 1) (acc X W c (4 * i.val + 3 + 1))) := by
  have s0 := step0 X W K c i ha0 ha1 ha2 ha3 ha4 ha5 ha6 v2 0#32 1#32
  rw [show 4 * i.val + 0 + 1 = 4 * i.val + 1 from rfl, show 4 * i.val + 0 = 4 * i.val from rfl] at s0
  have s1 := step1 X W K c i ha0 ha1 ha2 ha3 ha4 ha5 ha6 v2
  rw [show 4 * i.val + 1 + 1 = 4 * i.val + 2 from rfl] at s1
  have s2 := step2 X W K c i ha0 ha1 ha2 ha3 ha4 ha5 ha6 v2
  rw [show 4 * i.val + 2 + 1 = 4 * i.val + 3 from rfl] at s2
  unfold k0_t3_body
  rw [run_bind]
  refine run_next c s0 fun v => ?_
  rcases v with ⟨v49, w⟩
  dsimp only
  rw [run_bind]
  refine run_next c (s1 _ _) fun v => ?_
  rcases v with ⟨v108, v109, w'⟩
  dsimp only
  rw [run_bind]
  refine run_next c (s2 _ _ _ _) fun v137 => ?_
  clear s0 s1 s2
  have hi : i.val < 8 := i.isLt.trans_eq trips3
  have hs : 4 * i.val + 3 < 32 := by omega
  have hb : (3 : Fin 4) = bufOf (4 * i.val + 3) := Fin.ext (show 3 = (4 * i.val + 3) % 4 by omega)
  simp only [smemLoad, smemLoadElt, Prog.lift, Prog.bind_op, Prog.bind_ret, Prog.pure_eq_ret]
  unfold loopSt
  iintro ⟨#HR, HO, HW, HC, HV, Hout⟩
  by_cases h : k0_cond7 i = 1#1
  · have hn : 4 * i.val + 3 + 3 < 32 := (cond7_iff i).1 h
    have e1 : ahead (4 * i.val + 3) = 4 * i.val + 3 + 3 := by unfold ahead; omega
    have e2 : ahead (4 * i.val + 3 + 1) = 4 * i.val + 3 + 3 + 1 := by unfold ahead; omega
    rw [dif_pos h, e1]
    iapply (wp_order c (4 * i.val + 3 + 3) hn (off33_eq i)) $$ HO
    iintro HO
    iapply (run_assume c (chk15_wd i (ord c (4 * i.val + 3 + 3))))
    iapply (wp_chunk_start X W K c (s := 4 * i.val + 3) (n := 4 * i.val + 3 + 3) (by omega) (by omega) hn
      (off34_wd (ord c (4 * i.val + 3 + 3))) (b := 2) (Fin.ext (show 2 = (4 * i.val + 3 + 3) % 4 by omega)) (sem_chunk 2 _)) $$ [HC]
    · isplitr; · iexact HR
      iexact HC
    iintro HC
    rw [← e2]
    iapply (wp_order c (4 * i.val + 3) hs (off35_eq i)) $$ HO
    iintro HO
    iapply (run_assume c (chk17_wd c (ord c (4 * i.val + 3))))
    iapply (wp_order c (4 * i.val + 3) hs (off35_eq i)) $$ HO
    iintro HO
    iapply (run_assume c (chk16_wd (ord c (4 * i.val + 3))))
    iapply (wp_chunk_wait X W K c (s := 4 * i.val + 3) (n := ahead (4 * i.val + 3 + 1)) (by unfold ahead; omega) (by unfold ahead; omega) hs
      ((sem_chunk 3 _).trans (congrArg wS hb)) credit_chunk) $$ [HW HC]
    · isplitr; · iexact HR
      isplitl [HW] <;> iassumption
    iintro ⟨HW, Hb, HC⟩
    by_cases h2 : k0_cond8 c (wd (ord c (4 * i.val + 3))) = 1#1
    · have hne := (cond8_iff c (ord c (4 * i.val + 3))).1 h2
      have h1 : 1 ≤ 4 * i.val + 3 := step_pos hne
      rw [dif_pos h2, show max (4 * i.val + 3) 1 = 4 * i.val + 3 by omega, show max (4 * i.val + 3 + 1) 1 = 4 * i.val + 3 + 1 by omega]
      iapply (wp_recv_wait X W K c h1 hs (sem_recv (ord c (4 * i.val + 3)) (off37_wd _) _) credit_slot) $$ [HW HV]
      · isplitr; · iexact HR
        isplitl [HW] <;> iassumption
      iintro ⟨HW, HV⟩
      iapply (wp_out_load c (acc X W c (4 * i.val + 3))) $$ Hout
      iintro Hout
      iapply (wp_slot_load X c (a := 4 * i.val + 3 + 1) (j := 4 * i.val + 3) (by omega) (off39_wd (ord c (4 * i.val + 3)))) $$ HV
      iintro HV
      iapply (wp_chunk_load W c (s := 4 * i.val + 3) hb (off := ![3, 0, 0]) rfl) $$ Hb
      iintro Hb
      iapply (wp_out_load c (acc X W c (4 * i.val + 3))) $$ Hout
      iintro Hout
      iapply (wp_out_store c (acc X W c (4 * i.val + 3)) (acc X W c (4 * i.val + 3 + 1))) $$ Hout
      iintro Hout
      iapply (run_done c _ _)
      isplitr; · iexact HR
      isplitl [HO]; · iexact HO
      isplitl [HW]; · iexact HW
      isplitl [HC Hb]
      · iapply HC
        iexists (bufAt (W c) (ord c (4 * i.val + 3)))
        iexact Hb
      isplitl [HV]; · iexact HV
      iexact Hout
    · have h0 : 4 * i.val + 3 = 0 := step_zero hs (Classical.not_not.1 fun hne => h2 ((cond8_iff c (ord c (4 * i.val + 3))).2 hne))
      rw [dif_neg h2, show max (4 * i.val + 3 + 1) 1 = max (4 * i.val + 3) 1 by omega]
      iapply (wp_out_load c (acc X W c (4 * i.val + 3))) $$ Hout
      iintro Hout
      iapply (wp_slot_load X c (a := max (4 * i.val + 3) 1) (j := 4 * i.val + 3) (by omega) (off39_wd (ord c (4 * i.val + 3)))) $$ HV
      iintro HV
      iapply (wp_chunk_load W c (s := 4 * i.val + 3) hb (off := ![3, 0, 0]) rfl) $$ Hb
      iintro Hb
      iapply (wp_out_load c (acc X W c (4 * i.val + 3))) $$ Hout
      iintro Hout
      iapply (wp_out_store c (acc X W c (4 * i.val + 3)) (acc X W c (4 * i.val + 3 + 1))) $$ Hout
      iintro Hout
      iapply (run_done c _ _)
      isplitr; · iexact HR
      isplitl [HO]; · iexact HO
      isplitl [HW]; · iexact HW
      isplitl [HC Hb]
      · iapply HC
        iexists (bufAt (W c) (ord c (4 * i.val + 3)))
        iexact Hb
      isplitl [HV]; · iexact HV
      iexact Hout
  · have hn : ¬ 4 * i.val + 3 + 3 < 32 := fun hn => h ((cond7_iff i).2 hn)
    have e1 : ahead (4 * i.val + 3) = ahead (4 * i.val + 3 + 1) := by unfold ahead; omega
    rw [dif_neg h, e1]
    iapply (wp_order c (4 * i.val + 3) hs (off35_eq i)) $$ HO
    iintro HO
    iapply (run_assume c (chk17_wd c (ord c (4 * i.val + 3))))
    iapply (wp_order c (4 * i.val + 3) hs (off35_eq i)) $$ HO
    iintro HO
    iapply (run_assume c (chk16_wd (ord c (4 * i.val + 3))))
    iapply (wp_chunk_wait X W K c (s := 4 * i.val + 3) (n := ahead (4 * i.val + 3 + 1)) (by unfold ahead; omega) (by unfold ahead; omega) hs
      ((sem_chunk 3 _).trans (congrArg wS hb)) credit_chunk) $$ [HW HC]
    · isplitr; · iexact HR
      isplitl [HW] <;> iassumption
    iintro ⟨HW, Hb, HC⟩
    by_cases h2 : k0_cond8 c (wd (ord c (4 * i.val + 3))) = 1#1
    · have hne := (cond8_iff c (ord c (4 * i.val + 3))).1 h2
      have h1 : 1 ≤ 4 * i.val + 3 := step_pos hne
      rw [dif_pos h2, show max (4 * i.val + 3) 1 = 4 * i.val + 3 by omega, show max (4 * i.val + 3 + 1) 1 = 4 * i.val + 3 + 1 by omega]
      iapply (wp_recv_wait X W K c h1 hs (sem_recv (ord c (4 * i.val + 3)) (off37_wd _) _) credit_slot) $$ [HW HV]
      · isplitr; · iexact HR
        isplitl [HW] <;> iassumption
      iintro ⟨HW, HV⟩
      iapply (wp_out_load c (acc X W c (4 * i.val + 3))) $$ Hout
      iintro Hout
      iapply (wp_slot_load X c (a := 4 * i.val + 3 + 1) (j := 4 * i.val + 3) (by omega) (off39_wd (ord c (4 * i.val + 3)))) $$ HV
      iintro HV
      iapply (wp_chunk_load W c (s := 4 * i.val + 3) hb (off := ![3, 0, 0]) rfl) $$ Hb
      iintro Hb
      iapply (wp_out_load c (acc X W c (4 * i.val + 3))) $$ Hout
      iintro Hout
      iapply (wp_out_store c (acc X W c (4 * i.val + 3)) (acc X W c (4 * i.val + 3 + 1))) $$ Hout
      iintro Hout
      iapply (run_done c _ _)
      isplitr; · iexact HR
      isplitl [HO]; · iexact HO
      isplitl [HW]; · iexact HW
      isplitl [HC Hb]
      · iapply HC
        iexists (bufAt (W c) (ord c (4 * i.val + 3)))
        iexact Hb
      isplitl [HV]; · iexact HV
      iexact Hout
    · have h0 : 4 * i.val + 3 = 0 := step_zero hs (Classical.not_not.1 fun hne => h2 ((cond8_iff c (ord c (4 * i.val + 3))).2 hne))
      rw [dif_neg h2, show max (4 * i.val + 3 + 1) 1 = max (4 * i.val + 3) 1 by omega]
      iapply (wp_out_load c (acc X W c (4 * i.val + 3))) $$ Hout
      iintro Hout
      iapply (wp_slot_load X c (a := max (4 * i.val + 3) 1) (j := 4 * i.val + 3) (by omega) (off39_wd (ord c (4 * i.val + 3)))) $$ HV
      iintro HV
      iapply (wp_chunk_load W c (s := 4 * i.val + 3) hb (off := ![3, 0, 0]) rfl) $$ Hb
      iintro Hb
      iapply (wp_out_load c (acc X W c (4 * i.val + 3))) $$ Hout
      iintro Hout
      iapply (wp_out_store c (acc X W c (4 * i.val + 3)) (acc X W c (4 * i.val + 3 + 1))) $$ Hout
      iintro Hout
      iapply (run_done c _ _)
      isplitr; · iexact HR
      isplitl [HO]; · iexact HO
      isplitl [HW]; · iexact HW
      isplitl [HC Hb]
      · iapply HC
        iexists (bufAt (W c) (ord c (4 * i.val + 3)))
        iexact Hb
      isplitl [HV]; · iexact HV
      iexact Hout

end Cert.KernelIdeal.A2A

end
-- ==== Proof.Sends.lean ====
/-
  The sends, and the waits for their end.
-/
module

public import proofs.«01_k».proof.Proof.Moves

@[expose] public section

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

variable (X : Dev nD → S8192x256.Idx → F .f32) (W : Dev nD → S8192x4096.Idx → F .f32)
variable (K : GSem nD τ sig → ℕ) (c : Fin 32)

theorem send_body (i : Fin k0_t2_loop.trips) (ha0 : (ordM).IsWhole) (ha1 : (xM).IsWhole) (ha2 : (wM).IsWhole) (ha3 : (oM).IsWhole) (ha4 : (xbM).IsWhole) (ha5 : (slM).IsWhole) (ha6 : (bfM).IsWhole) (v2 : BitVec 32) (v19 : Elt F .i32) (hw) (u : Unit) :
    iprop(records X W K ∗ ownReached c ∗ ordPts c ∗ sendingSt X c (i.val + 1))
      ⊢ run c (k0_t2_body ordM ha0 xM ha1 wM ha2 oM ha3 xbM ha4 slM ha5 bfM ha6 cc0_scratch3 cc0_scratch4 cc0_scratch5 c v2 v19 hw i u) fun _ =>
        iprop(records X W K ∗ ownReached c ∗ ordPts c ∗ sendingSt X c (i.val + 1 + 1)) := by
  have hi : i.val + 1 < 32 := by have := i.isLt.trans_eq trips2; omega
  unfold k0_t2_body
  simp only [smemLoad, smemLoadElt, Prog.lift, Prog.bind_op, Prog.bind_ret, Prog.pure_eq_ret]
  iintro ⟨#HR, #HO, Hord, HS⟩
  iapply (wp_order c (i.val + 1) hi (off7_eq i)) $$ Hord
  iintro Hord
  iapply (run_assume c (chk5_wd (ord c (i.val + 1))))
  iapply (wp_send_step X W K c (a := i.val + 1) (by omega) hi (Fin.ext (dev2_wd (ord c (i.val + 1)))) (off11_wd (ord c (i.val + 1))) (off10_dev c)
    (sem_send (ord c (i.val + 1)) (off8_wd (ord c (i.val + 1))) _) (sem_recv c (off9_dev c) _)) $$ [HS]
  · isplitr; · iexact HR
    isplitr; · iexact HO
    iexact HS
  iintro HS
  iapply (run_done c _ _)
  isplitr; · iexact HR
  isplitr; · iexact HO
  isplitl [Hord]; · iexact Hord
  iexact HS

theorem sent_body (i : Fin k0_t4_loop.trips) (ha0 : (ordM).IsWhole) (ha1 : (xM).IsWhole) (ha2 : (wM).IsWhole) (ha3 : (oM).IsWhole) (ha4 : (xbM).IsWhole) (ha5 : (slM).IsWhole) (ha6 : (bfM).IsWhole) (u : Unit) :
    iprop(records X W K ∗ ordPts c ∗ owing c 0 ∗ sendSt X c (i.val + 1))
      ⊢ run c (k0_t4_body ordM ha0 xM ha1 wM ha2 oM ha3 xbM ha4 slM ha5 bfM ha6 cc0_scratch3 cc0_scratch4 cc0_scratch5 i u) fun _ =>
        iprop(records X W K ∗ ordPts c ∗ owing c 0 ∗ sendSt X c (i.val + 1 + 1)) := by
  have hi : i.val + 1 < 32 := by have := i.isLt.trans_eq trips4; omega
  unfold k0_t4_body
  simp only [smemLoad, smemLoadElt, Prog.lift, Prog.bind_op, Prog.bind_ret, Prog.pure_eq_ret]
  iintro ⟨#HR, Hord, HW, HS⟩
  iapply (wp_order c (i.val + 1) hi (off40_eq i)) $$ Hord
  iintro Hord
  iapply (run_assume c (chk18_wd (ord c (i.val + 1))))
  iapply (wp_sent_wait X W K c (a := i.val + 1) (by omega) hi (sem_send (ord c (i.val + 1)) (off41_wd (ord c (i.val + 1))) _) credit_rows) $$ [HW HS]
  · isplitr; · iexact HR
    isplitl [HW] <;> iassumption
  iintro ⟨HW, HS⟩
  iapply (run_done c _ _)
  isplitr; · iexact HR
  isplitl [Hord]; · iexact Hord
  isplitl [HW]; · iexact HW
  iexact HS

end Cert.KernelIdeal.A2A

end
-- ==== Proof.Middle.lean ====
/-
  The body's middle: the input block is rounded and stored, the device's own band goes to its own slot, the other bands
  are sent, and the 32 steps add their products to the output block, which is rectified at the end.
-/
module

public import proofs.«01_k».proof.Proof.Loop
public import proofs.«01_k».proof.Proof.Sends

@[expose] public section

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

variable (X : Dev nD → S8192x256.Idx → F .f32) (W : Dev nD → S8192x4096.Idx → F .f32)
variable (K : GSem nD τ sig → ℕ) (c : Fin 32)

/-! ## The input block and its rounding -/

def xPts (f : S8192x256.Idx → F .f32) : sProp 𝕄 := iprop((c : Thread nD τ).loc cc0_stg1_0 ↦{fullShare} f)
def xbPts (f : S8192x256.Idx → F .bf16) : sProp 𝕄 := iprop((c : Thread nD τ).loc cc0_scratch0 ↦{fullShare} f)

theorem emb_whole_x (inb) (i : S8192x256.Idx) : (Rect.unit (s := S8192x256) ![0, 0] S8192x256.size inb).emb i = i := by
  funext a
  apply Fin.ext
  rw [Rect.emb_apply]
  match a with
  | ⟨0, _⟩ => simp
  | ⟨1, _⟩ => simp

theorem wp_x_load {α : Type} (f : S8192x256.Idx → F .f32) {inb hl} (k : (S8192x256.Idx → Elt F .f32) → BProg F α) (Q : α → sProp 𝕄) :
    xPts c f ⊢ iprop((xPts c f -∗ run c (k f) Q)
      -∗ run c (Prog.op (.load xM (Rect.unit (s := S8192x256) ![0, 0] S8192x256.size inb).toLoadRect hl) k) Q) := by
  have hw := wp_load_rect (Γ := .empty) (defs := defs₀ (F := F)) 𝒱₀ (c : Thread nD τ) none Set.univ (m := xM)
    (r := Rect.unit (s := S8192x256) ![0, 0] S8192x256.size inb) (hl := hl) (k := k) (Q := Q) (q := fullShare) (f := f) (Finset.subset_univ _)
  rw [show (xM.access (Rect.unit (s := S8192x256) ![0, 0] S8192x256.size inb)).read (Elt F) f = f from
    funext fun i => congrArg f (emb_whole_x inb i)] at hw
  exact hw

theorem wp_xb_load {α : Type} (f : S8192x256.Idx → F .bf16) {inb hl} (k : (S8192x256.Idx → Elt F .bf16) → BProg F α) (Q : α → sProp 𝕄) :
    xbPts c f ⊢ iprop((xbPts c f -∗ run c (k f) Q)
      -∗ run c (Prog.op (.load xbM (Rect.unit (s := S8192x256) ![0, 0] S8192x256.size inb).toLoadRect hl) k) Q) := by
  have hw := wp_load_rect (Γ := .empty) (defs := defs₀ (F := F)) 𝒱₀ (c : Thread nD τ) none Set.univ (m := xbM)
    (r := Rect.unit (s := S8192x256) ![0, 0] S8192x256.size inb) (hl := hl) (k := k) (Q := Q) (q := fullShare) (f := f) (Finset.subset_univ _)
  rw [show (xbM.access (Rect.unit (s := S8192x256) ![0, 0] S8192x256.size inb)).read (Elt F) f = f from
    funext fun i => congrArg f (emb_whole_x inb i)] at hw
  exact hw

theorem wp_xb_store {α : Type} (f g : S8192x256.Idx → F .bf16) {inb hx hm} (k : PUnit → BProg F α) (Q : α → sProp 𝕄) :
    xbPts c f ⊢ iprop((xbPts c g -∗ run c (k ⟨⟩) Q)
      -∗ run c (Prog.op (.store xbM (Rect.unit (s := S8192x256) ![0, 0] S8192x256.size inb) g Finset.univ hx hm) k) Q) := by
  have hw := wp_store (Γ := .empty) (defs := defs₀ (F := F)) 𝒱₀ (c : Thread nD τ) none Set.univ (m := xbM)
    (r := Rect.unit (s := S8192x256) ![0, 0] S8192x256.size inb) (w := g) (Mk := Finset.univ) (hx := hx) (hm := hm) (k := k) (Q := Q) (f := f) (Finset.subset_univ _)
  rw [show (xbM.access (Rect.unit (s := S8192x256) ![0, 0] S8192x256.size inb)).write (Elt F) f g Finset.univ = g from
    Memref.write_access_unit_zero_univ (Elt F) cc0_scratch0 zero2 inb f g] at hw
  exact hw

/-- The device's own band is loaded: whatever the program does with it, it does with what it computes of it. -/
theorem wp_xb_own {α : Type} (f : S8192x256.Idx → F .bf16) {off : Fin 2 → ℕ} (hoff : off = ![256 * c.val, 0]) {inb hl}
    (k : (S256x256.Idx → Elt F .bf16) → BProg F α) (Q : α → sProp 𝕄) :
    xbPts c f ⊢ iprop((xbPts c f -∗ run c (k ((xbM.access (xrowR c)).read (Elt F) f)) Q)
      -∗ run c (Prog.op (.load xbM (Rect.unit (s := S8192x256) off S256x256.size inb).toLoadRect hl) k) Q) := by
  subst hoff
  exact wp_load_rect (Γ := .empty) (defs := defs₀ (F := F)) 𝒱₀ (c : Thread nD τ) none Set.univ (m := xbM)
    (r := xrowR c) (hl := hl) (k := k) (Q := Q) (q := fullShare) (f := f) (Finset.subset_univ _)

theorem wp_own_load {α : Type} (f : S32x256x256.Idx → F .bf16) {off : Fin 3 → ℕ} (hoff : off = ![c.val, 0, 0]) {inb hl}
    (k : (S1x256x256.Idx → Elt F .bf16) → BProg F α) (Q : α → sProp 𝕄) :
    (slPts c c f : sProp 𝕄) ⊢ iprop((slPts c c f -∗ run c (k ((slM.access (slotR c)).read (Elt F) f)) Q)
      -∗ run c (Prog.op (.load slM (Rect.unit (s := S32x256x256) off S1x256x256.size inb).toLoadRect hl) k) Q) := by
  subst hoff
  exact wp_load_rect (Γ := .empty) (defs := defs₀ (F := F)) 𝒱₀ (c : Thread nD τ) none Set.univ (m := slM)
    (r := slotR c) (hl := hl) (k := k) (Q := Q) (q := fullShare) (f := f) (S := (slV c).view.set)
    (by rw [set_slV]; exact (View.set_slice_whole _ _).subset)

theorem sub_own : (slM.access (slotR c)).setOn Finset.univ ⊆ (slV c).view.set := by
  rw [set_slV]
  exact (View.set_slice_whole _ _).subset

theorem wp_own_store {α : Type} (f : S32x256x256.Idx → F .bf16) {off : Fin 3 → ℕ} (hoff : off = ![c.val, 0, 0])
    {g : S1x256x256.Idx → F .bf16} (hg : g = slotOf (xbOf X c) c) {inb hx hm} (k : PUnit → BProg F α) (Q : α → sProp 𝕄) :
    (slPts c c f : sProp 𝕄) ⊢ iprop((slPts c c (slotsAll (xbOf X) c) -∗ run c (k ⟨⟩) Q)
      -∗ run c (Prog.op (.store slM (Rect.unit (s := S32x256x256) off S1x256x256.size inb) g Finset.univ hx hm) k) Q) := by
  subst hoff hg
  have hw := wp_store (Γ := .empty) (defs := defs₀ (F := F)) 𝒱₀ (c : Thread nD τ) none Set.univ (m := slM)
    (r := slotR c) (w := slotOf (xbOf X c) c) (Mk := Finset.univ) (hx := hx) (hm := hm) (k := k) (Q := Q) (f := f) (S := (slV c).view.set)
    (sub_own c)
  have e : ∀ g : S32x256x256.Idx → F .bf16, (∀ i ∈ (slV c).view.set, g i = slotsAll (xbOf X) c i) → ((slPts c c g : sProp 𝕄) ⊢ slPts c c (slotsAll (xbOf X) c)) :=
    fun g hg => Entails.of_eq (pointsTo_congr hg)
  have e' := e _ (slot_stored (xbOf X) c f)
  generalize (slM.access (slotR c)).write (Elt F) f (slotOf (xbOf X c) c) Finset.univ = g at hw e'
  exact hw.trans (wand_mono_left (wand_mono_left e'))

/-! ## The middle -/

/-- What the middle starts from, beside the records. -/
def midPre (f0 : S8192x256.Idx → F .bf16) (f1 : S32x256x256.Idx → F .bf16) (f2 : S256x4096.Idx → F .f32) : sProp 𝕄 :=
  iprop(ordPts c ∗ chunkSt W c 0 2 ∗ xPts c (X c) ∗ xbPts c f0 ∗ slPts c c f1 ∗ outPts c f2
    ∗ (bigSep (Finset.Ico 1 32) fun j => barPay c (ord c j))
    ∗ (bigSep (Finset.Ico 1 32) fun j => dutyTok ER (recvCell (ord c j) c) 0 0)
    ∗ (bigSep (Finset.Ico 1 32) fun j => dutyTok ER (sendCell c (ord c j)) 0 0)
    ∗ owing c (RO c 1)
    ∗ (bigSep (Finset.Ico 1 32) fun j => iprop(cred (tallyAt (recvCell c (ord c j)) () NB) ∗ atPos ER (recvCell c (ord c j)) 0 ∅ 0)))

/-- What it ends with. -/
def midPost : sProp 𝕄 :=
  iprop(ordPts c ∗ chunkSt W c 32 32 ∗ xPts c (X c) ∗ recvSt X c 32 ∗ outPts c (k0_pay8 (acc X W c 32))
    ∗ xrPts c (ord c 0) (xbOf X c) ∗ (bigSep (Finset.Ico 1 32) fun j => cred (tallyAt (sendCell c (ord c j)) () NB)) ∗ owing c 0)

/-- The rounded block, cut along the device's order: the own band, and the bands to be sent. -/
theorem cut_xb (f : S8192x256.Idx → F .bf16) :
    xbPts c f ⊢ iprop(xrPts c (ord c 0) f ∗ bigSep (Finset.Ico 1 32) fun j => xrPts c (ord c j) f) := by
  unfold xbPts
  rw [split_xrows, by_order c, pop (by decide : 0 < 32)]

theorem own_slot : (bigSep (Finset.Ico 0 1) fun j => (slPts c (ord c j) (slotsAll (xbOf X) c) : sProp 𝕄)) = slPts c c (slotsAll (xbOf X) c) := by
  rw [show Finset.Ico 0 1 = ({0} : Finset ℕ) from rfl, bigSep_singleton, ord_zero]

theorem middle (f0 : S8192x256.Idx → F .bf16) (f1 : S32x256x256.Idx → F .bf16) (f2 : S256x4096.Idx → F .f32) (ha0 : (ordM).IsWhole) (ha1 : (xM).IsWhole) (ha2 : (wM).IsWhole) (ha3 : (oM).IsWhole) (ha4 : (xbM).IsWhole) (ha5 : (slM).IsWhole) (ha6 : (bfM).IsWhole) (v2 : BitVec 32) (hw) :
    iprop(records X W K ∗ ownReached c ∗ midPre X W c f0 f1 f2)
      ⊢ run c (k0_part5 ordM ha0 xM ha1 wM ha2 oM ha3 xbM ha4 slM ha5 bfM ha6 cc0_scratch3 cc0_scratch4 cc0_scratch5 c v2 (wd (ord c 2)) hw) fun _ => midPost X W c := by
  rw [k0_part5_eq_skeleton]
  unfold k0_part5_skel
  simp only [Prog.lift, Prog.bind_op, Prog.bind_ret, Prog.pure_eq_ret]
  unfold midPre
  iintro ⟨#HR, #HO, Hord, HC, Hx, Hxb, Hsl, Hout, Hbp, Htr, Hts, HW, Hrc⟩
  iapply (wp_chunk_start X W K c (s := 0) (n := 2) (by decide) (by decide) (by decide) (off4_wd (ord c 2)) (b := 2) rfl (sem_chunk 2 _)) $$ [HC]
  · isplitr; · iexact HR
    iexact HC
  iintro HC
  iapply (wp_x_load c (X c)) $$ Hx
  iintro Hx
  iapply (wp_xb_load c f0) $$ Hxb
  iintro Hxb
  iapply (wp_xb_store c f0 (xbOf X c)) $$ Hxb
  iintro Hxb
  iapply (wp_xb_own c (xbOf X c) (off5_dev c)) $$ Hxb
  iintro Hxb
  iapply (wp_own_load c f1 (off6_dev c)) $$ Hsl
  iintro Hsl
  iapply (wp_own_store X c f1 (off6_dev c) (own_load (xbOf X c) c)) $$ Hsl
  iintro Hsl
  ihave ⟨Hx0, Hxs⟩ := (cut_xb c (xbOf X c)) $$ Hxb
  iapply (Scf.wp_for_bind frame (wpE (defs₀ (F := F)) 𝒱₀ (c : Thread nD τ) none) Set.univ _ _ _ k0_t2_ok _ _
    (fun k (_ : Unit) => iprop(records X W K ∗ ownReached c ∗ ordPts c ∗ sendingSt X c (k + 1)))
    (fun i u => send_body X W K c i ha0 ha1 ha2 ha3 ha4 ha5 ha6 v2 (wd (ord c 2)) hw u)) $$ [Hord Hxs Hbp Htr Hts HW]
  · isplitr; · iexact HR
    isplitr; · iexact HO
    isplitl [Hord]; · iexact Hord
    unfold sendingSt
    isplitl [Hxs]; · iexact Hxs
    isplitl [Hbp]; · iexact Hbp
    isplitl [Htr]; · iexact Htr
    isplitl [Hts]; · iexact Hts
    isplitr; · iapply (Entails.of_eq (none_left 1 _).symm); iempintro
    iexact HW
  iintro %u ⟨-, -, Hord, HS⟩
  ihave ⟨Hcs, HW⟩ := (show sendingSt X c (k0_t2_loop.trips + 1)
      ⊢ (iprop((bigSep (Finset.Ico 1 32) fun j => cred (tallyAt (sendCell c (ord c j)) () NB)) ∗ owing c 0) : sProp 𝕄) by
    rw [trips2]
    unfold sendingSt
    rw [RO_end]
    iintro ⟨-, -, -, -, H, H'⟩
    isplitl [H] <;> iassumption) $$ HS
  iapply (wp_out_load c f2) $$ Hout
  iintro Hout
  iapply (wp_out_store c f2 (acc X W c 0)) $$ Hout
  iintro Hout
  iapply (Scf.wp_for_bind frame (wpE (defs₀ (F := F)) 𝒱₀ (c : Thread nD τ) none) Set.univ _ _ _ k0_t3_ok _ _
    (fun k (_ : Unit) => loopSt X W K c (4 * k) (ahead (4 * k)) (max (4 * k) 1) (acc X W c (4 * k)))
    (fun i u => loop_body X W K c i ha0 ha1 ha2 ha3 ha4 ha5 ha6 v2 (wd (ord c 2)) hw u)) $$ [Hord HC HW Hsl Hrc Hout]
  · unfold loopSt
    isplitr; · iexact HR
    isplitl [Hord]; · iexact Hord
    isplitl [HW]; · iexact HW
    isplitl [HC]; · iexact HC
    isplitl [Hsl Hrc]
    · unfold recvSt
      isplitl [Hrc]; · iexact Hrc
      isplitl [Hsl]
      · iapply (Entails.of_eq (own_slot X c).symm)
        iexact Hsl
      iapply (Entails.of_eq (none_left 1 _).symm); iempintro
    iexact Hout
  iintro %u HL
  ihave HL := (show loopSt X W K c (4 * k0_t3_loop.trips) (ahead (4 * k0_t3_loop.trips)) (max (4 * k0_t3_loop.trips) 1) (acc X W c (4 * k0_t3_loop.trips))
      ⊢ loopSt X W K c 32 32 32 (acc X W c 32) by
    rw [trips3, show 4 * 8 = 32 from rfl, show ahead 32 = 32 from rfl, show max 32 1 = 32 from rfl]) $$ HL
  unfold loopSt
  icases HL with ⟨-, Hord, HW, HC, HV, Hout⟩
  iapply (wp_out_load c (acc X W c 32)) $$ Hout
  iintro Hout
  iapply (wp_out_load c (acc X W c 32)) $$ Hout
  iintro Hout
  iapply (wp_out_store c (acc X W c 32) (k0_pay8 (acc X W c 32))) $$ Hout
  iintro Hout
  iapply (run_done c _ _)
  unfold midPost
  isplitl [Hord]; · iexact Hord
  isplitl [HC]; · iexact HC
  isplitl [Hx]; · iexact Hx
  isplitl [HV]; · iexact HV
  isplitl [Hout]; · iexact Hout
  isplitl [Hx0]; · iexact Hx0
  isplitl [Hcs]; · iexact Hcs
  iexact HW

end Cert.KernelIdeal.A2A

end
-- ==== Proof.Closing.lean ====
/-
  The whole body on one device: what it starts from and what it leaves, every buffer whole and every semaphore closed.
-/
module

public import proofs.«01_k».proof.Proof.Enter
public import proofs.«01_k».proof.Proof.Middle

@[expose] public section

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

variable (X : Dev nD → S8192x256.Idx → F .f32) (W : Dev nD → S8192x4096.Idx → F .f32)
variable (K : GSem nD τ sig → ℕ) (c : Fin 32)

def slWhole (f : S32x256x256.Idx → F .bf16) : sProp 𝕄 := iprop((c : Thread nD τ).loc cc0_scratch1 ↦{fullShare} f)
def bfWhole (f : S4x256x4096.Idx → F .f32) : sProp 𝕄 := iprop((c : Thread nD τ).loc cc0_scratch2 ↦{fullShare} f)
def wPts (f : S8192x4096.Idx → F .f32) : sProp 𝕄 := iprop((c : Thread nD τ).loc main_arg1 ↦{fullShare} f)

/-! ## Regrouping -/

theorem by_buf (Φ : Fin 4 → sProp 𝕄) : bigSep Finset.univ Φ = bigSep (Finset.Ico 0 4) fun j => Φ (bufOf j) := by
  have e : (Finset.univ : Finset (Fin 4)) = (Finset.Ico 0 4).image bufOf := by decide
  rw [e]
  exact Finset.fold_image (by decide)
theorem by_buf_end (Φ : Fin 4 → sProp 𝕄) : bigSep Finset.univ Φ = bigSep (Finset.Ico 32 36) fun j => Φ (bufOf j) := by
  have e : (Finset.univ : Finset (Fin 4)) = (Finset.Ico 32 36).image bufOf := by decide
  rw [e]
  exact Finset.fold_image (by decide)

/-- A product over the own semaphores, sends, receives and chunk buffers apart. -/
theorem by_role (Φ : OK → sProp 𝕄) :
    bigSep Finset.univ Φ = iprop((bigSep Finset.univ fun j => Φ (.inl j)) ∗ (bigSep Finset.univ fun j => Φ (.inr (.inl j)))
      ∗ bigSep Finset.univ fun b => Φ (.inr (.inr b))) := by
  rw [BI.bigSep_univ_sum, BI.bigSep_univ_sum]; rfl

/-- A product over all devices, the own device first and the rest by the steps of the order. -/
theorem own_first (Φ : Fin 32 → sProp 𝕄) :
    bigSep Finset.univ Φ = iprop(Φ c ∗ bigSep (Finset.Ico 1 32) fun j => Φ (ord c j)) := by
  rw [by_order c, pop (by decide : 0 < 32), ord_zero]

theorem anything {A : Type} (Φ : A → sProp 𝕄) (a : A) : Φ a ⊢ iprop(∃ a, Φ a) := by
  iintro H
  iexists a
  iexact H

theorem cut_slots (f : S32x256x256.Idx → F .bf16) :
    slWhole c f ⊢ iprop(slPts c c f ∗ bigSep (Finset.Ico 1 32) fun j => iprop(∃ f, slPts c (ord c j) f)) := by
  unfold slWhole
  rw [split_slots, own_first c]
  exact sep_mono_right (bigSep_mono fun j _ => anything (fun f => slPts c (ord c j) f) f)
theorem cut_bufs (f : S4x256x4096.Idx → F .f32) :
    bfWhole c f ⊢ bigSep (Finset.Ico 0 4) fun j => (iprop(∃ f, bfPts c (bufOf j) f) : sProp 𝕄) := by
  unfold bfWhole
  rw [split_bufs, by_buf]
  exact bigSep_mono fun j _ => anything (fun f => bfPts c (bufOf j) f) f
theorem cut_w (f : S8192x4096.Idx → F .f32) : wPts c f = bigSep (Finset.Ico 0 32) fun j => (wrPts c (ord c j) f : sProp 𝕄) := by
  unfold wPts
  rw [split_wrows, by_order c]

theorem join_slots (f : S32x256x256.Idx → F .bf16) :
    (bigSep (Finset.Ico 0 32) fun j => (slPts c (ord c j) f : sProp 𝕄)) = slWhole c f := by
  unfold slWhole
  rw [split_slots, by_order c]
theorem join_xb (f : S8192x256.Idx → F .bf16) :
    (bigSep (Finset.Ico 0 32) fun j => (xrPts c (ord c j) f : sProp 𝕄)) = xbPts c f := by
  unfold xbPts
  rw [split_xrows, by_order c]
theorem join_bufs :
    (bigSep (Finset.Ico 32 36) fun j => (iprop(∃ f, bfPts c (bufOf j) f) : sProp 𝕄)) ⊢ iprop(∃ f, bfWhole c f) := by
  haveI : Nonempty (S4x256x4096.Idx → F .f32) := ⟨fun _ => k0_pay6 (ix2 (0 : Fin 256) (0 : Fin 4096))⟩
  rw [← by_buf_end fun b => iprop(∃ f, bfPts c b f)]
  refine (BI.bigSep_exists_pi Finset.univ fun (b : Fin 4) (f : S4x256x4096.Idx → F .f32) => (bfPts c b f : sProp 𝕄)).trans ?_
  iintro ⟨%y, H⟩
  iexists fun i => y ⟨(i 0).val, (i (0 : Fin 3)).isLt⟩ i
  unfold bfWhole
  rw [split_bufs]
  have e : ∀ b : Fin 4, ∀ i ∈ (bfV b).view.set, y b i = y ⟨(i 0).val, (i (0 : Fin 3)).isLt⟩ i := fun b i hi => by
    rw [set_bfV] at hi
    have e : (⟨(i 0).val, (i (0 : Fin 3)).isLt⟩ : Fin 4) = b := Fin.ext (mem_buf.1 hi)
    exact congrFun (congrArg y e.symm) i
  iapply (Entails.of_eq (bigSep_congr fun b _ => pointsTo_congr (e b)))
  iexact H

/-! ## What the body starts from and what it leaves -/

def bodyPre (f0 : S8192x256.Idx → F .bf16) (f1 : S32x256x256.Idx → F .bf16) (f2 : S256x4096.Idx → F .f32) (f3 : S4x256x4096.Idx → F .f32) : sProp 𝕄 :=
  iprop(opened X W K c ∗ levAts L lv ∗ owing c (O₀ c) ∗ waitCreds c ∗ ordPts c ∗ xPts c (X c) ∗ outPts c f2
    ∗ xbPts c f0 ∗ slWhole c f1 ∗ bfWhole c f3 ∗ wPts c (W c))

/-- The output block at the end. -/
def result : S256x4096.Idx → F .f32 := k0_pay8 (acc X W c 32)

def bodyPost : sProp 𝕄 :=
  iprop(owing c 0 ∗ ordPts c ∗ xPts c (X c) ∗ outPts c (result X W c)
    ∗ (∃ f, xbPts c f) ∗ (∃ f, slWhole c f) ∗ (∃ f, bfWhole c f) ∗ wPts c (W c)
    ∗ semVal (barCell c) 0 ∗ bigSep Finset.univ fun k : OK => semVal ((c : Thread nD τ), osem k) 0)

/-! ## Closing the semaphores -/

theorem close_bar : iprop(records X W K ∗ atPos ER (barCell c) 1 ∅ 0) ⊢ (|={Set.univ}=> semVal (barCell c) 0 : sProp 𝕄) := by
  iintro ⟨#HR, Ha⟩
  iapply (Rounds.cell_close ER (talkRd X W) (Set.mem_univ (K (barCell c))) id (duties_bar_later X W c))
  isplitr; · iapply (inv_bar X W K c); iexact HR
  iexact Ha

theorem close_own (k : OK) {R : ℕ} (h : ∀ r, R ≤ r → (talkRd X W).duties ((c : Thread nD τ), osem k) r = ∅) :
    iprop(records X W K ∗ atPos ER ((c : Thread nD τ), osem k) R ∅ 0) ⊢ (|={Set.univ}=> semVal ((c : Thread nD τ), osem k) 0 : sProp 𝕄) := by
  iintro ⟨#HR, Ha⟩
  iapply (Rounds.cell_close ER (talkRd X W) (Set.mem_univ (K ((c : Thread nD τ), osem k))) id h)
  isplitr; · iapply (inv_own X W K c k); iexact HR
  iexact Ha

/-- A family of cells closed at once. -/
theorem close_all {S : Finset ℕ} {Φ Ψ : ℕ → sProp 𝕄} (h : ∀ j ∈ S, iprop(records X W K ∗ Φ j) ⊢ (|={Set.univ}=> Ψ j : sProp 𝕄)) :
    iprop(records X W K ∗ bigSep S Φ) ⊢ (|={Set.univ}=> bigSep S Ψ : sProp 𝕄) := by
  refine BIBase.Entails.trans ?_ (bigSep_fupd S Ψ)
  refine (sep_mono_left (BI.bigSep_of_persistent S _)).trans ?_
  rw [← bigSep_sep']
  exact bigSep_mono h

/-- All own semaphores, each at the round where nothing is left to do. -/
def lastPos : sProp 𝕄 :=
  iprop(atPos ER (barCell c) 1 ∅ 0
    ∗ (atPos ER (sendCell c c) 0 ∅ 0 ∗ bigSep (Finset.Ico 1 32) fun j => atPos ER (sendCell c (ord c j)) 1 ∅ 0)
    ∗ (atPos ER (recvCell c c) 0 ∅ 0 ∗ bigSep (Finset.Ico 1 32) fun j => atPos ER (recvCell c (ord c j)) 1 ∅ 0)
    ∗ bigSep (Finset.Ico 32 36) fun j => atPos ER (wCell c (bufOf j)) (j / 4) ∅ 0)

theorem close : iprop(records X W K ∗ lastPos c)
    ⊢ (|={Set.univ}=> iprop(semVal (barCell c) 0 ∗ bigSep Finset.univ fun k : OK => semVal ((c : Thread nD τ), osem k) 0) : sProp 𝕄) := by
  rw [by_role, own_first c, own_first c, by_buf_end]
  unfold lastPos
  iintro ⟨#HR, Hb, ⟨Hs0, Hs⟩, ⟨Hr0, Hr⟩, Hw⟩
  imod (close_bar X W K c) $$ [Hb] with Hb
  · isplitr; · iexact HR
    iexact Hb
  imod (close_own X W K c (.inl c) (duties_send_own X W c)) $$ [Hs0] with Hs0
  · isplitr; · iexact HR
    iexact Hs0
  imod (close_all X W K (fun j _ => close_own X W K c (.inl (ord c j)) (duties_send_later X W c (ord c j)))) $$ [Hs] with Hs
  · isplitr; · iexact HR
    iexact Hs
  imod (close_own X W K c (.inr (.inl c)) (duties_recv_own X W c)) $$ [Hr0] with Hr0
  · isplitr; · iexact HR
    iexact Hr0
  imod (close_all X W K (fun j _ => close_own X W K c (.inr (.inl (ord c j))) (duties_recv_later X W c (ord c j)))) $$ [Hr] with Hr
  · isplitr; · iexact HR
    iexact Hr
  imod (close_all X W K (S := Finset.Ico 32 36) (Φ := fun j => atPos ER (wCell c (bufOf j)) (j / 4) ∅ 0)
      (fun j hj => close_own X W K c (.inr (.inr (bufOf j))) (R := j / 4) (fun r hr => duties_chunk_later X W c (bufOf j) r (by have := (Finset.mem_Ico.1 hj).1; omega)))) $$ [Hw] with Hw
  · isplitr; · iexact HR
    iexact Hw
  imodintro
  isplitl [Hb]; · iexact Hb
  isplitl [Hs0 Hs]; · isplitl [Hs0] <;> iassumption
  isplitl [Hr0 Hr]; · isplitl [Hr0] <;> iassumption
  iexact Hw

end Cert.KernelIdeal.A2A

end
-- ==== Proof.Body.lean ====
/-
  The body on one device, from everything it is given to everything it leaves.
-/
module

public import proofs.«01_k».proof.Proof.Closing

@[expose] public section

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

variable (X : Dev nD → S8192x256.Idx → F .f32) (W : Dev nD → S8192x4096.Idx → F .f32)
variable (K : GSem nD τ sig → ℕ) (c : Fin 32)

theorem run_from {α β : Type} {p : Prog (TpuEff nD τ sig (Elt F) Λ₀ .tc) α} {k : α → Prog (TpuEff nD τ sig (Elt F) Λ₀ .tc) β} {P : sProp 𝕄} {R : α → sProp 𝕄} {Q : β → sProp 𝕄}
    (h : P ⊢ run c p R) : P ⊢ iprop((∀ v, R v -∗ run c (k v) Q) -∗ run c (p >>= k) Q) := by
  unfold run
  rw [wp_bind]
  exact h.trans (wp_wand _ _ _)

theorem run_close {α : Type} (a : α) (Q : α → sProp 𝕄) : iprop(|={Set.univ}=> Q a) ⊢ run c (Prog.ret a : BProg F α) Q := by
  unfold run
  rw [wp_ret]

theorem own_row : (bigSep (Finset.Ico 0 1) fun j => (xrPts c (ord c j) (xbOf X c) : sProp 𝕄)) = xrPts c (ord c 0) (xbOf X c) := by
  rw [show Finset.Ico 0 1 = ({0} : Finset ℕ) from rfl, bigSep_singleton]

theorem first_pos :
    iprop(ownReached c ∗ bigSep (Finset.Ico 0 4) fun j => atPos ER (wCell c (bufOf j)) 0 ∅ 0)
      ⊢ (bigSep (Finset.Ico 0 (0 + 4)) fun j => iprop(atPos ER (wCell c (bufOf j)) (j / 4) ∅ 0 ∗ reached ER (wCell c (bufOf j)) (j / 4)) : sProp 𝕄) := by
  refine (sep_mono_left (BI.bigSep_of_persistent (Finset.Ico 0 4) _)).trans ?_
  rw [← bigSep_sep']
  have h : ∀ j ∈ Finset.Ico 0 4, iprop(ownReached c ∗ atPos ER (wCell c (bufOf j)) 0 ∅ 0)
      ⊢ (iprop(atPos ER (wCell c (bufOf j)) (j / 4) ∅ 0 ∗ reached ER (wCell c (bufOf j)) (j / 4)) : sProp 𝕄) := fun j hj => by
    have e : j / 4 = 0 := by have := (Finset.mem_Ico.1 hj).2; omega
    rw [e]
    iintro ⟨#HO, Ha⟩
    isplitl [Ha]; · iexact Ha
    iapply (reached_chunk c (bufOf j)); iexact HO
  exact bigSep_mono h

theorem last_pos :
    (bigSep (Finset.Ico 32 (32 + 4)) fun j => iprop(atPos ER (wCell c (bufOf j)) (j / 4) ∅ 0 ∗ reached ER (wCell c (bufOf j)) (j / 4)) : sProp 𝕄)
      ⊢ bigSep (Finset.Ico 32 36) fun j => atPos ER (wCell c (bufOf j)) (j / 4) ∅ 0 := by
  rw [bigSep_sep']
  iintro ⟨H, -⟩
  iexact H

theorem last_send : sendSt X c (k0_t4_loop.trips + 1)
    ⊢ (iprop(xbPts c (xbOf X c) ∗ bigSep (Finset.Ico 1 32) fun j => atPos ER (sendCell c (ord c j)) 1 ∅ 0) : sProp 𝕄) := by
  rw [trips4]
  unfold sendSt
  rw [join_xb]
  iintro ⟨-, H, H'⟩
  isplitl [H] <;> iassumption

theorem finish :
    iprop(records X W K ∗ atPos ER (barCell c) 1 ∅ 0 ∗ atPos ER (sendCell c c) 0 ∅ 0 ∗ atPos ER (recvCell c c) 0 ∅ 0
        ∗ (xbPts c (xbOf X c) ∗ bigSep (Finset.Ico 1 32) fun j => atPos ER (sendCell c (ord c j)) 1 ∅ 0)
        ∗ recvSt X c 32 ∗ chunkSt W c 32 32 ∗ owing c 0 ∗ ordPts c ∗ xPts c (X c) ∗ outPts c (result X W c))
      ⊢ (|={Set.univ}=> bodyPost X W c : sProp 𝕄) := by
  unfold recvSt chunkSt
  rw [join_slots, ← cut_w]
  iintro ⟨#HR, Hab, Hs0, Hr0, ⟨Hxb, Hs⟩, ⟨-, Hsl, Hr⟩, ⟨-, Hbf, -, Hw, -, Ha⟩, HW, Hord, Hx, Hout⟩
  ihave Ha := (last_pos c) $$ Ha
  ihave Hbf := (join_bufs c) $$ Hbf
  imod (close X W K c) $$ [Hab Hs0 Hr0 Hs Hr Ha] with ⟨Hv, Hvs⟩
  · isplitr; · iexact HR
    unfold lastPos
    isplitl [Hab]; · iexact Hab
    isplitl [Hs0 Hs]; · isplitl [Hs0] <;> iassumption
    isplitl [Hr0 Hr]; · isplitl [Hr0] <;> iassumption
    iexact Ha
  imodintro
  unfold bodyPost
  isplitl [HW]; · iexact HW
  isplitl [Hord]; · iexact Hord
  isplitl [Hx]; · iexact Hx
  isplitl [Hout]; · iexact Hout
  isplitl [Hxb]; · iexists (xbOf X c); iexact Hxb
  isplitl [Hsl]; · iexists (slotsAll (xbOf X) c); iexact Hsl
  isplitl [Hbf]; · iexact Hbf
  isplitl [Hw]; · iexact Hw
  isplitl [Hv] <;> iassumption

/-- The state between the first two parts of the body, from what the body starts with. -/
theorem cut_pre (f0 : S8192x256.Idx → F .bf16) (f1 : S32x256x256.Idx → F .bf16) (f2 : S256x4096.Idx → F .f32) (f3 : S4x256x4096.Idx → F .f32) :
    bodyPre X W K c f0 f1 f2 f3 ⊢ iprop((records X W K ∗ ownReached c)
      ∗ (levAts L lv ∗ ordPts c ∗ sigSt c 1 ∗ cred (tallyAt (barCell c) () 31) ∗ atPos ER (barCell c) 0 ∅ 0 ∗ chunkSt W c 0 0)
      ∗ (xPts c (X c) ∗ xbPts c f0 ∗ slPts c c f1 ∗ outPts c f2
        ∗ (bigSep (Finset.Ico 1 32) fun j => dutyTok ER (recvCell (ord c j) c) 0 0)
        ∗ (bigSep (Finset.Ico 1 32) fun j => dutyTok ER (sendCell c (ord c j)) 0 0)
        ∗ (bigSep (Finset.Ico 1 32) fun j => iprop(cred (tallyAt (recvCell c (ord c j)) () NB) ∗ atPos ER (recvCell c (ord c j)) 0 ∅ 0)))
      ∗ atPos ER (sendCell c c) 0 ∅ 0 ∗ atPos ER (recvCell c c) 0 ∅ 0
      ∗ (bigSep (Finset.Ico 1 32) fun j => atPos ER (sendCell c (ord c j)) 0 ∅ 0)) := by
  unfold bodyPre opened waitCreds payToks
  rw [by_role, own_first c, own_first c, by_buf, cut_w]
  unfold O₀
  iintro ⟨⟨#HR, #HO, Hab, ⟨⟨Hs0, Hs⟩, ⟨Hr0, Hr⟩, Ha⟩, Htb, Htr, Hts, Htw⟩, Hl, HW, ⟨Hcb, Hcr⟩, Hord, Hx, Hout, Hxb, Hsl, Hbf, Hw⟩
  ihave ⟨Hsl0, Hsls⟩ := (cut_slots c f1) $$ Hsl
  ihave Hbf := (cut_bufs c f3) $$ Hbf
  isplitr
  · isplitr; · iexact HR
    iexact HO
  isplitl [Hl Hord Htb Hsls HW Hcb Hab Hbf Hw Htw Ha]
  · isplitl [Hl]; · iexact Hl
    isplitl [Hord]; · iexact Hord
    isplitl [Htb Hsls HW]
    · unfold sigSt
      rw [bigSep_sep']
      isplitl [Htb Hsls]; · isplitl [Htb] <;> iassumption
      iexact HW
    isplitl [Hcb]; · iexact Hcb
    isplitl [Hab]; · iexact Hab
    unfold chunkSt
    isplitr; · iapply (Entails.of_eq (none_left 0 _).symm); iempintro
    isplitl [Hbf]; · iexact Hbf
    isplitl [Hw]; · iexact Hw
    isplitr; · iapply (Entails.of_eq (none_left 0 _).symm); iempintro
    isplitl [Htw]; · iexact Htw
    iapply (first_pos c)
    isplitr; · iexact HO
    iexact Ha
  isplitl [Hx Hxb Hsl0 Hout Htr Hts Hcr Hr]
  · isplitl [Hx]; · iexact Hx
    isplitl [Hxb]; · iexact Hxb
    isplitl [Hsl0]; · iexact Hsl0
    isplitl [Hout]; · iexact Hout
    isplitl [Htr]; · iexact Htr
    isplitl [Hts]; · iexact Hts
    rw [bigSep_sep']
    isplitl [Hcr] <;> iassumption
  isplitl [Hs0]; · iexact Hs0
  isplitl [Hr0]; · iexact Hr0
  iexact Hs

theorem body (f0 : S8192x256.Idx → F .bf16) (f1 : S32x256x256.Idx → F .bf16) (f2 : S256x4096.Idx → F .f32) (f3 : S4x256x4096.Idx → F .f32) (ha0 : (ordM).IsWhole) (ha1 : (xM).IsWhole) (ha2 : (wM).IsWhole) (ha3 : (oM).IsWhole) (ha4 : (xbM).IsWhole) (ha5 : (slM).IsWhole) (ha6 : (bfM).IsWhole) :
    bodyPre X W K c f0 f1 f2 f3 ⊢ run c (cc0__body ordM ha0 xM ha1 wM ha2 oM ha3 xbM ha4 slM ha5 bfM ha6 cc0_scratch3 cc0_scratch4 cc0_scratch5) fun _ => bodyPost X W c := by
  rw [cc0__body_eq_skeleton]
  unfold cc0__body_skel
  refine (cut_pre X W K c f0 f1 f2 f3).trans ?_
  iintro ⟨⟨#HR, #HO⟩, ⟨Hl, Hord, HS, Hcb, Hab, HC⟩, ⟨Hx, Hxb, Hsl, Hout, Htr, Hts, Hrc⟩, Hs0, Hr0, Hs⟩
  iapply (run_from c (enter X W K c ha0 ha1 ha2 ha3 ha4 ha5 ha6)) $$ [Hl Hord HS Hcb Hab HC]
  · isplitr; · iexact HR
    isplitr; · iexact HO
    isplitl [Hl]; · iexact Hl
    isplitl [Hord]; · iexact Hord
    isplitl [HS]; · iexact HS
    isplitl [Hcb]; · iexact Hcb
    isplitl [Hab]; · iexact Hab
    iexact HC
  iintro %v ⟨%hv, Hord, HW, Hab, Hbp, HC⟩
  obtain ⟨d0, v2, v19, hw4⟩ := v
  obtain ⟨h1, h2⟩ := hv
  dsimp only at h1 h2
  subst h1 h2
  iapply (run_from d0 (middle X W K d0 f0 f1 f2 ha0 ha1 ha2 ha3 ha4 ha5 ha6 v2 hw4)) $$ [Hord HC Hx Hxb Hsl Hout Hbp Htr Hts HW Hrc]
  · isplitr; · iexact HR
    isplitr; · iexact HO
    unfold midPre
    isplitl [Hord]; · iexact Hord
    isplitl [HC]; · iexact HC
    isplitl [Hx]; · iexact Hx
    isplitl [Hxb]; · iexact Hxb
    isplitl [Hsl]; · iexact Hsl
    isplitl [Hout]; · iexact Hout
    isplitl [Hbp]; · iexact Hbp
    isplitl [Htr]; · iexact Htr
    isplitl [Hts]; · iexact Hts
    isplitl [HW]; · iexact HW
    iexact Hrc
  iintro %v HM
  obtain ⟨u1, u2⟩ := v
  unfold midPost
  icases HM with ⟨Hord, HC, Hx, HV, Hout, Hx0, Hcs, HW⟩
  iapply (Scf.wp_for_bind frame (wpE (defs₀ (F := F)) 𝒱₀ (d0 : Thread nD τ) none) Set.univ _ _ _ k0_t4_ok _ _
    (fun k (_ : Unit) => iprop(records X W K ∗ ordPts d0 ∗ owing d0 0 ∗ sendSt X d0 (k + 1)))
    (fun i u => sent_body X W K d0 i ha0 ha1 ha2 ha3 ha4 ha5 ha6 u)) $$ [Hord HW Hcs Hs Hx0]
  · isplitr; · iexact HR
    isplitl [Hord]; · iexact Hord
    isplitl [HW]; · iexact HW
    unfold sendSt
    rw [bigSep_sep']
    isplitl [Hcs Hs]; · isplitl [Hcs] <;> iassumption
    isplitl [Hx0]
    · iapply (Entails.of_eq (own_row X d0).symm)
      iexact Hx0
    iapply (Entails.of_eq (none_left 1 _).symm); iempintro
  iintro %u ⟨-, Hord, HW, HS⟩
  iapply (run_close d0)
  iapply (finish X W K d0)
  isplitr; · iexact HR
  isplitl [Hab]; · iexact Hab
  isplitl [Hs0]; · iexact Hs0
  isplitl [Hr0]; · iexact Hr0
  isplitl [HS]; · iapply (last_send X d0); iexact HS
  isplitl [HV]; · iexact HV
  isplitl [HC]; · iexact HC
  isplitl [HW]; · iexact HW
  isplitl [Hord]; · iexact Hord
  isplitl [Hx]; · iexact Hx
  iexact Hout

end Cert.KernelIdeal.A2A

end
-- ==== Proof.Region.lean ====
/-
  The call as a region of the program: what it is entered with and what it leaves, and that the body's run is what the
  region asks for.

-/
module

public import proofs.«01_k».proof.Proof.Order
public import proofs.«01_k».proof.Proof.Body
public import proofs.«01_k».proof.Proof.Gen.KernelIdeal.Points
public import proofs.«01_k».proof.Proof.Gen.KernelIdeal.Regions
public import Idealize.ShloMosaic.Lib.Pipeline.Value

@[expose] public section

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The blocks of the windows are the arrays -/

theorem blk0_read (t : Fin grid0.N) (G : (main_v5 : Ref sig .tc).ty.Contents (Elt F)) : (win0_0.blk t).view.read (Elt F) G = G := by
  funext i
  rw [View.read_apply]
  refine congrArg G ?_
  funext a
  apply Fin.ext
  show 0 * _ + 1 * _ = _
  rw [Nat.zero_mul, Nat.zero_add, Nat.one_mul]
theorem blk1_read (t : Fin grid0.N) (G : (main_arg0 : Ref sig .tc).ty.Contents (Elt F)) : (win0_1.blk t).view.read (Elt F) G = G := by
  funext i
  rw [View.read_apply]
  refine congrArg G ?_
  funext a
  apply Fin.ext
  show 0 * _ + 1 * _ = _
  rw [Nat.zero_mul, Nat.zero_add, Nat.one_mul]
theorem blk2_read (t : Fin grid0.N) (G : (main_v6 : Ref sig .tc).ty.Contents (Elt F)) : (win0_2.blk t).view.read (Elt F) G = G := by
  funext i
  rw [View.read_apply]
  refine congrArg G ?_
  funext a
  apply Fin.ext
  show 0 * _ + 1 * _ = _
  rw [Nat.zero_mul, Nat.zero_add, Nat.one_mul]
theorem blk2_emb (t : Fin grid0.N) (i : S256x4096.Idx) : (win0_2.blk t).view.emb i = i := by
  funext a
  apply Fin.ext
  show 0 * _ + 1 * _ = _
  rw [Nat.zero_mul, Nat.zero_add, Nat.one_mul]

/-! ## Contents -/

/-- Each device's block of x and its copy of w, as launched. -/
def inX (c : Dev nD) : S8192x256.Idx → F .f32 := m ((c : Thread nD τ).loc main_arg0)
def inW (c : Dev nD) : S8192x4096.Idx → F .f32 := m ((c : Thread nD τ).loc main_arg1)

theorem V2_arg0 (c : Dev nD) : V2 m c (Proc.devRef .tc main_arg0) = inX m c :=
  (V2_of m c main_arg0 (by decide)).trans <| (V1_of m c main_arg0 (by decide)).trans rfl
theorem V2_arg1 (c : Dev nD) : V2 m c (Proc.devRef .tc main_arg1) = inW m c :=
  (V2_of m c main_arg1 (by decide)).trans <| (V1_of m c main_arg1 (by decide)).trans rfl

/-- What the device's buffers hold after the call. -/
def endV (c : Dev nD) : Valuation τ sig (Elt F) := Function.update (V2 m c) (Proc.devRef .tc main_v6) (result (inX m) (inW m) c)

theorem endV_out (c : Dev nD) : endV m c (Proc.devRef .tc main_v6) = result (inX m) (inW m) c := Function.update_self ..
theorem endV_of (c : Dev nD) (b : DevRef τ sig) (h : b ≠ Proc.devRef .tc main_v6) : endV m c b = V2 m c b := Function.update_of_ne h ..

/-! ## The region's data -/

/-- The three scratch buffers, at contents not chosen. -/
def scratch (c : Dev nD) : sProp 𝕄 := iprop((∃ f, xbPts c f) ∗ (∃ f, slWhole c f) ∗ (∃ f, bfWhole c f))

def Xk (c : Dev nD) : sProp 𝕄 := iprop((∃ K, opened (inX m) (inW m) K c) ∗ levAts L lv ∗ waitCreds c)
def Yk (c : Dev nD) : sProp 𝕄 := semVal (barCell c) 0

/-- Before the body, and after. -/
def Phi0 (c : Dev nD) : sProp 𝕄 := iprop(Xk m c ∗ wPts c (inW m c) ∗ scratch c ∗ ∃ r, prngReg c r)
def Phi1 (c : Dev nD) : sProp 𝕄 := iprop(Yk c ∗ (bigSep Finset.univ fun k : OK => semVal ((c : Thread nD τ), osem k) 0) ∗ wPts c (inW m c) ∗ scratch c ∗ ∃ r, prngReg c r)

def dat (c : Dev nD) : Dat τ (Elt F) Unit ℕ UU ℕ cfg0 c where
  A w := match w with
    | ⟨0, _⟩ => V2 m c (Proc.devRef .tc main_v5)
    | ⟨1, _⟩ => V2 m c (Proc.devRef .tc main_arg0)
    | ⟨2, _⟩ => V2 m c (Proc.devRef .tc main_v6)
  after w _ := match w with
    | ⟨0, _⟩ => ordF c
    | ⟨1, _⟩ => inX m c
    | ⟨2, _⟩ => result (inX m) (inW m) c
  Φ t := if t.val = 0 then Phi0 m c else Phi1 m c
  q _ := fullShare
  owed t := if t.val = 0 then O₀ c else 0

abbrev pdats (_ : Fin 1) (c : Dev nD) : Dat τ (Elt F) Unit ℕ UU ℕ cfg0 c := dat m c

theorem phi_first (c : Dev nD) : (dat m c).Φ 0 = Phi0 m c := by
  show (if ((0 : Fin (cfg0.N + 1)).val = 0) then Phi0 m c else Phi1 m c) = _; exact if_pos rfl
theorem phi_start (c : Dev nD) : (dat m c).Φ t0_0.castSucc = Phi0 m c := by
  show (if (t0_0.castSucc : Fin (cfg0.N + 1)).val = 0 then Phi0 m c else Phi1 m c) = _; exact if_pos rfl
theorem phi_end (c : Dev nD) : (dat m c).Φ t0_0.succ = Phi1 m c := by
  show (if (t0_0.succ : Fin (cfg0.N + 1)).val = 0 then Phi0 m c else Phi1 m c) = _; exact if_neg (Nat.succ_ne_zero _)
theorem phi_last (c : Dev nD) : (dat m c).Φ (Fin.last cfg0.N) = Phi1 m c := by
  show (if (Fin.last cfg0.N).val = 0 then Phi0 m c else Phi1 m c) = _
  exact if_neg (by rw [Fin.val_last, show cfg0.N = 1 from N_0]; decide)
theorem owed_first (c : Dev nD) : (dat m c).owed 0 = O₀ c := by
  show (if ((0 : Fin (cfg0.N + 1)).val = 0) then O₀ c else 0) = _; exact if_pos rfl
theorem owed_start (c : Dev nD) : (dat m c).owed t0_0.castSucc = O₀ c := by
  show (if (t0_0.castSucc : Fin (cfg0.N + 1)).val = 0 then O₀ c else 0) = _; exact if_pos rfl
theorem owed_end (c : Dev nD) : (dat m c).owed t0_0.succ = 0 := by
  show (if (t0_0.succ : Fin (cfg0.N + 1)).val = 0 then O₀ c else 0) = _; exact if_neg (Nat.succ_ne_zero _)
theorem owed_last (c : Dev nD) : (dat m c).owed (Fin.last cfg0.N) = 0 := by
  show (if (Fin.last cfg0.N).val = 0 then O₀ c else 0) = _
  exact if_neg (by rw [Fin.val_last, show cfg0.N = 1 from N_0]; decide)

theorem before0 (c : Dev nD) (d) : (dat m c).before (0 : Fin 3) t0_0 d = ordF c := by
  unfold Dat.before
  rw [if_pos (fetch0_0 t0_0)]
  exact (blk0_read t0_0 (V2 m c (Proc.devRef .tc main_v5))).trans (order_row m c)
theorem before1 (c : Dev nD) (d) : (dat m c).before (1 : Fin 3) t0_0 d = inX m c := by
  unfold Dat.before
  rw [if_pos (fetch0_1 t0_0)]
  exact (blk1_read t0_0 (V2 m c (Proc.devRef .tc main_arg0))).trans (V2_arg0 m c)

theorem owes_out (c : Dev nD) (t : Fin (cfg0.N + 1)) (O : CellTallies nD τ sig Unit) (h0 : (dat m c).owed t = O) :
    ((dat m c).owesAt () t : sProp 𝕄) ⊢ owing c O := by
  unfold Dat.owesAt Pipeline.owesWithin owing; rw [h0]
  iintro ⟨%Wt, -, HO⟩; iexists Wt; iexact HO
theorem owes_in (c : Dev nD) (t : Fin (cfg0.N + 1)) (O : CellTallies nD τ sig Unit) (h0 : (dat m c).owed t = O) :
    owing c O ⊢ ((dat m c).owesAt () t : sProp 𝕄) := by
  unfold Dat.owesAt Pipeline.owesWithin Dat.bound owing; rw [h0]
  iintro ⟨%Wt, HO⟩; iexists Wt; isplitr; · ipureintro; exact fun _ _ => Or.inl trivial
  iexact HO

/-- What the region hands the body, and takes from it. -/
def obPre (c : Dev nD) : sProp 𝕄 :=
  iprop(Phi0 m c ∗ (dat m c).owesAt () t0_0.castSucc
    ∗ (∃ d, owns (c : Thread nD τ) (Memref.whole cc0_stg0_0) fullShare ((dat m c).before (0 : Fin 3) t0_0 d))
    ∗ (∃ d, owns (c : Thread nD τ) (Memref.whole cc0_stg1_0) fullShare ((dat m c).before (1 : Fin 3) t0_0 d))
    ∗ (∃ d, owns (c : Thread nD τ) (Memref.whole cc0_stg2_0) fullShare ((dat m c).before (2 : Fin 3) t0_0 d)))
def obPost (c : Dev nD) : sProp 𝕄 :=
  iprop(Phi1 m c ∗ (dat m c).owesAt () t0_0.succ
    ∗ owns (c : Thread nD τ) (Memref.whole cc0_stg0_0) fullShare (ordF c)
    ∗ owns (c : Thread nD τ) (Memref.whole cc0_stg1_0) fullShare (inX m c)
    ∗ owns (c : Thread nD τ) (Memref.whole cc0_stg2_0) fullShare (result (inX m) (inW m) c))

theorem obPre_out (c : Dev nD) :
    obPre m c ⊢ iprop(∃ K f0 f1 f2 f3, bodyPre (inX m) (inW m) K c f0 f1 f2 f3 ∗ ∃ r, prngReg c r) := by
  unfold obPre Phi0 Xk scratch
  simp only [before0, before1, owns_whole_eq]
  iintro ⟨⟨⟨⟨%K, Hop⟩, Hlev, Hwc⟩, Hw, ⟨⟨%f0, Hx0⟩, ⟨%f1, Hx1⟩, ⟨%f3, Hx3⟩⟩, Hp⟩, HO, ⟨%d0, %g0, %h0, H0⟩, ⟨%d1, %g1, %h1, H1⟩, ⟨%d2, %g2, %h2, H2⟩⟩
  subst h0
  subst h1
  iexists K, f0, f1, g2, f3
  unfold bodyPre ordPts xPts outPts
  isplitr [Hp]
  · isplitl [Hop]; · iexact Hop
    isplitl [Hlev]; · iexact Hlev
    isplitl [HO]; · iapply (owes_out m c _ (O₀ c) (owed_start m c)); iexact HO
    isplitl [Hwc]; · iexact Hwc
    isplitl [H0]; · iexact H0
    isplitl [H1]; · iexact H1
    isplitl [H2]; · iexact H2
    isplitl [Hx0]; · iexact Hx0
    isplitl [Hx1]; · iexact Hx1
    isplitl [Hx3]; · iexact Hx3
    iexact Hw
  · iexact Hp

theorem obPost_in (c : Dev nD) :
    iprop(bodyPost (inX m) (inW m) c ∗ ∃ r, prngReg c r) ⊢ obPost m c := by
  unfold obPost Phi1 Yk scratch bodyPost ordPts xPts outPts
  rw [owns_whole_eq, owns_whole_eq, owns_whole_eq]
  iintro ⟨⟨HO, H0, H1, H2, Hx0, Hx1, Hx3, Hw, Hb, Hs⟩, Hp⟩
  isplitl [Hx0 Hx1 Hx3 Hw Hb Hs Hp]
  · isplitl [Hb]; · iexact Hb
    isplitl [Hs]; · iexact Hs
    isplitl [Hw]; · iexact Hw
    isplitl [Hx0 Hx1 Hx3]
    · isplitl [Hx0]; · iexact Hx0
      isplitl [Hx1]; · iexact Hx1
      iexact Hx3
    iexact Hp
  isplitl [HO]; · iapply (owes_in m c _ 0 (owed_end m c)); iexact HO
  isplitl [H0]
  · iexists _; isplitr; · (ipureintro; rfl)
    iexact H0
  isplitl [H1]
  · iexists _; isplitr; · (ipureintro; rfl)
    iexact H1
  iexists _; isplitr; · (ipureintro; rfl)
  iexact H2

theorem body_run (c : Dev nD) : obPre m c ⊢ run c (bodyAt0 (F := F) t0_0) fun _ => obPost m c := by
  refine (obPre_out m c).trans ?_
  iintro ⟨%K, %f0, %f1, %f2, %f3, HB, Hp⟩
  have hb : bodyPre (inX m) (inW m) K c f0 f1 f2 f3 ⊢ run c (bodyAt0 (F := F) t0_0) fun _ => bodyPost (inX m) (inW m) c :=
    body (inX m) (inW m) K c f0 f1 f2 f3 _ _ _ _ _ _ _
  ihave HR := hb $$ HB
  unfold run
  iapply (wp_wand _ _ _) $$ HR
  iintro %v HQ
  iapply (obPost_in m c)
  isplitl [HQ] <;> iassumption

/-- The body's obligation to the pipeline. -/
theorem body_obligation (c : Dev nD) : BodyObligation (dat m c) (defs₀ (F := F)) 𝒱₀ () Set.univ := fun t => by
  rw [fin_N0 t, bigSep_W0, bigSep_W0, phi_start, phi_end]
  exact body_run m c

end Cert.KernelIdeal.A2A

end
-- ==== Proof.Record.lean ====
/-
  The call's record: what it is entered from and left with, from the body's obligation.

-/
module

public import proofs.«01_k».proof.Proof.Region

@[expose] public section

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The device's buffers, grouped -/

/-- The weight, which the body copies from itself; all the buffers that are no window's array. -/
abbrev wRefs : Finset (DevRef τ sig) := {Proc.devRef .tc main_arg1}
abbrev winRefs : Finset (DevRef τ sig) := Pipeline.arrRefs (τ := τ) spec0
abbrev restRefs : Finset (DevRef τ sig) := Pipeline.ucRefs τ sig \ winRefs

theorem winRefs_sub : winRefs ⊆ Pipeline.ucRefs τ sig := Pipeline.arrRefs_sub_ucRefs spec0 (by decide)
theorem winRefs_eq : winRefs = {Proc.devRef .tc main_v5, Proc.devRef .tc main_arg0, Proc.devRef .tc main_v6} := by decide
theorem arg1_mem : (Proc.devRef .tc main_arg1 : DevRef τ sig) ∈ Pipeline.ucRefs τ sig :=
  Finset.mem_filter.mpr ⟨StableHlo.devRef_mem_tcRefs main_arg1, by decide⟩
theorem wRefs_sub : wRefs ⊆ restRefs := by
  intro b hb
  rw [Finset.mem_singleton] at hb
  subst hb
  exact Finset.mem_sdiff.mpr ⟨arg1_mem, by rw [winRefs_eq]; decide⟩

theorem held_w (c : Dev nD) (V : Valuation τ sig (Elt F)) :
    (StableHlo.held (c.tc : Thread nD τ) wRefs V : sProp 𝕄) = wPts c (V (Proc.devRef .tc main_arg1)) := by
  unfold StableHlo.held
  exact bigSep_singleton ..

theorem endV_arg1 (c : Dev nD) : endV m c (Proc.devRef .tc main_arg1) = inW m c :=
  (endV_of m c _ (by decide)).trans (V2_arg1 m c)

/-! ## The layout and the levels -/

theorem kit : Pipeline.PLaunchFacts (nD := nD) (τ := τ) (pcfgs (F := F)) 0 := launch0.toP

theorem own_sems : Pipeline.OwnSemFacts spec0 osem where
  isScoped := by decide +kernel
  inj := osem_inj
  disj := by decide +kernel

theorem cutD (c : Dev nD) (t : Fin (cfg0.N + 1)) (g : GSem nD τ sig) (i : Unit) (h : 0 < (dat m c).owed t g i) :
    i ∈ L g ∧ (0 : ℕ) < lv g i := by
  have e : (dat m c).owed t = if t.val = 0 then O₀ c else 0 := rfl
  rw [e] at h
  split at h
  · unfold O₀ at h
    rw [Pi.add_apply, Finsupp.add_apply] at h
    rcases Nat.add_pos_iff_pos_or_pos.mp h with h | h
    · obtain ⟨d, rfl⟩ := RO_pos h
      exact ⟨by rw [L_tc]; exact Finset.mem_singleton_self _, by rw [lv_recv]; decide⟩
    · obtain ⟨d, rfl⟩ := BO_pos h
      exact ⟨by rw [L_tc]; exact Finset.mem_singleton_self _, by rw [lv_bar]; decide⟩
  · exact absurd h (Nat.lt_irrefl 0)

theorem stage_lv : ∀ (w : Fin 3) (s : Fin (cfg0.win w).nbuf), (match role (.dma ((cfg0.win w).sem s)) with
    | .bar => 1 | .recv _ => 2 | _ => 0) = 0 := by decide +kernel

theorem cut : Pipeline.LevelCutOwed (pcfgs (F := F)) adm (pdats m) () L lv 0 fun _ => 0 where
  hι c w s := by rw [L_tc]; exact Finset.mem_singleton_self _
  hιb c w s := (stage_lv w s).le
  hD c t g i h := cutD m c t g i h

/-! ## Entering and leaving -/

def Tk (c : Dev nD) : sProp 𝕄 := iprop((∃ K, ghost (inX m) (inW m) K c) ∗ waitCreds c)

theorem open_all (K : GSem nD τ sig → ℕ) (c : Dev nD) :
    iprop(records (inX m) (inW m) K ∗ ((bigSep Finset.univ fun k : OK => openTok ER ((c : Thread nD τ), osem k))
        ∗ bigSep Finset.univ fun k : OK => semVal ((c : Thread nD τ), osem k) 0))
      ⊢ (|={Set.univ}=> iprop((bigSep Finset.univ fun k : OK => atPos ER ((c : Thread nD τ), osem k) 0 ∅ 0) ∗ ownReached c) : sProp 𝕄) := by
  unfold ownReached
  rw [← bigSep_sep', ← bigSep_sep']
  refine BIBase.Entails.trans ?_ (bigSep_fupd _ _)
  exact bigSep_with_persistent (R := records (inX m) (inW m) K) fun k _ => open_one (inX m) (inW m) K c k

theorem hopen (c : Dev nD) : iprop(Tk m c ∗ Pipeline.ownSems0 osem c ∗ levAts L lv) ⊢ (|={Set.univ}=> Xk m c : sProp 𝕄) := by
  unfold Tk Xk Pipeline.ownSems0
  iintro ⟨⟨⟨%K, Hg⟩, Hwc⟩, Hs, #Hlev⟩
  unfold ghost
  icases Hg with ⟨#HR, HatB, Ho, Ht⟩
  imod (open_all m K c) $$ [Ho Hs] with ⟨Hat, #Hre⟩
  · isplitr; · iexact HR
    isplitl [Ho] <;> iassumption
  imodintro
  isplitl [HatB Hat Ht]
  · iexists K; unfold opened
    isplitr; · iexact HR
    isplitr; · iexact Hre
    isplitl [HatB]; · iexact HatB
    isplitl [Hat] <;> iassumption
  isplitr; · iexact Hlev
  iexact Hwc

theorem hin (c : Dev nD) : iprop(Pipeline.scopedRest (Pipeline.pin (pcfgs (F := F)) adm 0).spec c ∗ (∃ r, prngReg c r)
      ∗ StableHlo.held (c.tc : Thread nD τ) wRefs (V2 m c) ∗ Xk m c) ⊢ (pdats m 0 c).Φ 0 := by
  rw [show (pdats m 0 c).Φ 0 = Phi0 m c from phi_first m c, held_w, V2_arg1]
  refine (sep_mono_left (Entails.of_eq (scopedRest0_eq c))).trans ?_
  unfold Phi0 scratch xbPts slWhole bfWhole
  iintro ⟨Hs, Hp, Hw, HX⟩
  isplitl [HX]; · iexact HX
  isplitl [Hw]; · iexact Hw
  isplitl [Hs]; · iexact Hs
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) wRefs (endV m c) ∗ Pipeline.ownSems0 osem c ∗ Yk c) := by
  rw [show (pdats m 0 c).Φ (Fin.last _) = Phi1 m c from phi_last m c, held_w, endV_arg1]
  refine BIBase.Entails.trans ?_ (sep_mono_left (Entails.of_eq (scopedRest0_eq c).symm))
  unfold Phi1 scratch xbPts slWhole bfWhole Pipeline.ownSems0
  iintro ⟨HY, Hss, Hw, Hs, Hp⟩
  isplitl [Hs]; · iexact Hs
  isplitl [Hp]; · iexact Hp
  isplitl [Hw]; · iexact Hw
  isplitl [Hss]; · iexact Hss
  iexact HY

/-! ## The arrays -/

theorem arr_in (c : Dev nD) (w : Fin 3) : (dat m c).arrAt w 0 = V2 m c (Proc.devRef .tc (Pipeline.arrRef spec0 w)) := by
  match w with
  | ⟨0, _⟩ => rfl
  | ⟨1, _⟩ => rfl
  | ⟨2, _⟩ => rfl

theorem arr_out (c : Dev nD) (w : Fin 3) : (dat m c).arrAt w cfg0.N = endV m c (Proc.devRef .tc (Pipeline.arrRef spec0 w)) := by
  match w with
  | ⟨0, _⟩ => exact ((dat m c).arrAt_in 0 rfl _).trans (endV_of m c (Proc.devRef .tc main_v5) (by decide)).symm
  | ⟨1, _⟩ => exact ((dat m c).arrAt_in 1 rfl _).trans (endV_of m c (Proc.devRef .tc main_arg0) (by decide)).symm
  | ⟨2, _⟩ =>
    refine Eq.trans ?_ (endV_out m c).symm
    refine (dat m c).arrAt_eq_of_cover 2 (result (inX m) (inW m) c) (fun t _ => ?_) fun i => ⟨t0_0, flush0_2 t0_0, ?_⟩
    · exact (blk2_read t (result (inX m) (inW m) c)).symm
    · have h := (win0_2.blk t0_0).view.emb_mem_set i
      rw [blk2_emb t0_0 i] at h
      exact h

/-! ## The record -/

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem own_sems
    wRefs restRefs wRefs_sub kit rfl (fun c => (body_obligation m c).loose)
    (fun _ => 0) O₀ (fun c => (owed_first m c).trans (zero_add _).symm) (owed_last m) (fun _ => rfl)
    (fun _ w => by unfold Dat.share; split <;> rfl)
    (fun c => V2 m c) (endV m)
    (fun c b hb => endV_of m c b fun h => (Finset.mem_sdiff.mp (Finset.mem_sdiff.mp hb).1).2 (by rw [h, winRefs_eq]; decide))
    (Tk m) Yk (Xk m) Yk (hopen m) (hin m) (hout m)
    (fun c => by iintro H; imodintro; iexact H)
    (fun _ => 0) (cut m) (fun _ => iprop(emp))
    (fun c w => arr_in m c w) (fun c w => arr_out m c w)

theorem held_all (c : Dev nD) (V : Valuation τ sig (Elt F)) :
    (StableHlo.held (c : Thread nD τ) (Pipeline.ucRefs τ sig) V : sProp 𝕄)
      = iprop(StableHlo.held (c : Thread nD τ) winRefs V ∗ StableHlo.held (c : Thread nD τ) restRefs V) :=
  StableHlo.held_sub_split (c : Thread nD τ) winRefs_sub V

/-- What a device holds beside its buffers from launch to the call, and after it. -/
def E0 (c : Dev nD) : sProp 𝕄 := iprop(Tk m c ∗ (∃ r, prngReg c r) ∗ owing c (O₀ c))

theorem reg_pre (c : Dev nD) : iprop(StableHlo.held (c : Thread nD τ) (Pipeline.ucRefs τ sig) (V2 m c) ∗ E0 m c) ⊢ (reg m).pre c := by
  show _ ⊢ iprop(StableHlo.held (c.tc : Thread nD τ) winRefs (V2 m c) ∗ (∃ r, prngReg c r)
    ∗ (StableHlo.held (c.tc : Thread nD τ) restRefs (V2 m c) ∗ emp) ∗ Tk m c ∗ ∃ Wd, owes (c : Thread nD τ) (0 + O₀ c) Wd)
  rw [held_all, zero_add]
  unfold E0 owing
  iintro ⟨⟨Hw, Hr⟩, HT, Hp, HO⟩
  isplitl [Hw]; · iexact Hw
  isplitl [Hp]; · iexact Hp
  isplitl [Hr]
  · isplitl [Hr]; · iexact Hr
    iempintro
  isplitl [HT]; · iexact HT
  iexact HO

theorem reg_post (c : Dev nD) : (reg m).post c
    ⊢ iprop((StableHlo.held (c : Thread nD τ) (Pipeline.ucRefs τ sig) (endV m c) ∗ semVal (barCell c) 0)
      ∗ ∃ Wd, owes (c : Thread nD τ) (0 : CellTallies nD τ sig Unit) Wd) := by
  show iprop(StableHlo.held (c.tc : Thread nD τ) winRefs (endV m c) ∗ (∃ r, prngReg c r)
    ∗ (StableHlo.held (c.tc : Thread nD τ) restRefs (endV m c) ∗ emp) ∗ Yk c ∗ ∃ Wd, owes (c : Thread nD τ) (0 : CellTallies nD τ sig Unit) Wd) ⊢ _
  rw [held_all]
  unfold Yk
  iintro ⟨Hw, -, ⟨Hr, -⟩, Hb, HO⟩
  isplitr [HO]
  · isplitr [Hb]
    · isplitl [Hw] <;> iassumption
    · iexact Hb
  iexact HO

end Cert.KernelIdeal.A2A

end
-- ==== Proof.Tokens.lean ====
/-
  The tokens handed out at launch, one per duty, and the credit: each device gets the tokens of what it pays, and the
  credit for what it waits for.

-/
module

public import proofs.«01_k».proof.Proof.Protocol

@[expose] public section

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

/-! ## Sums over images and products -/

theorem bigSep_image_on {I J : Type} [DecidableEq I] [DecidableEq J] {s : Finset I} {f : I → J}
    (hf : ∀ a ∈ s, ∀ b ∈ s, f a = f b → a = b) (Φ : J → sProp 𝕄) :
    bigSep (s.image f) Φ = bigSep s fun i => Φ (f i) := by
  induction s using Finset.induction_on with
  | empty => rw [Finset.image_empty, BI.bigSep_empty, BI.bigSep_empty]
  | insert a s ha ih =>
    rw [Finset.image_insert, BI.bigSep_insert, BI.bigSep_insert ha,
      ih fun x hx y hy e => hf x (Finset.mem_insert_of_mem hx) y (Finset.mem_insert_of_mem hy) e]
    intro h
    obtain ⟨b, hb, e⟩ := Finset.mem_image.mp h
    exact ha (hf b (Finset.mem_insert_of_mem hb) a (Finset.mem_insert_self _ _) e ▸ hb)

theorem bigSep_product {I J : Type} [DecidableEq I] [DecidableEq J] (s : Finset I) (t : Finset J) (Φ : I × J → sProp 𝕄) :
    bigSep (s ×ˢ t) Φ = bigSep s fun i => bigSep t fun j => Φ (i, j) := by
  induction s using Finset.induction_on with
  | empty => rw [Finset.empty_product, BI.bigSep_empty, BI.bigSep_empty]
  | insert a s ha ih =>
    have e : insert a s ×ˢ t = (t.image fun j => (a, j)) ∪ s ×ˢ t := by
      ext ⟨x, y⟩
      simp only [Finset.mem_product, Finset.mem_insert, Finset.mem_union, Finset.mem_image, Prod.mk.injEq]
      constructor
      · rintro ⟨rfl | h, hy⟩
        · exact .inl ⟨y, hy, rfl, rfl⟩
        · exact .inr ⟨h, hy⟩
      · rintro (⟨z, hz, rfl, rfl⟩ | ⟨h, hy⟩)
        · exact ⟨.inl rfl, hz⟩
        · exact ⟨.inr h, hy⟩
    rw [e, BI.bigSep_union, BI.bigSep_insert ha, ih,
      bigSep_image_on (fun x _ y _ e => congrArg Prod.snd e)]
    rw [Finset.disjoint_left]
    intro x h1 h2
    obtain ⟨b, -, rfl⟩ := Finset.mem_image.mp h1
    exact ha (Finset.mem_product.mp h2).1

/-! ## The tokens -/

abbrev Tok : Type := GSem nD τ sig × ℕ × Fin 32

abbrev steps : Finset (Dev nD × ℕ) := Finset.univ ×ˢ Finset.Ico 1 32
abbrev chunks : Finset (Dev nD × ℕ) := Finset.univ ×ˢ Finset.Ico 0 32

def tokBar (p : Dev nD × ℕ) : Tok := (barCell (ord p.1 p.2), 0, p.1)
def tokRecv (p : Dev nD × ℕ) : Tok := (recvCell (ord p.1 p.2) p.1, 0, 0)
def tokSend (p : Dev nD × ℕ) : Tok := (sendCell p.1 (ord p.1 p.2), 0, 0)
def tokChunk (p : Dev nD × ℕ) : Tok := (wCell p.1 (bufOf p.2), p.2 / 4, 0)

theorem role_tokBar (p) : role (tokBar p).1.2 = .bar := role_bar
theorem role_tokRecv (p) : role (tokRecv p).1.2 = .recv p.1 := role_recv _
theorem role_tokSend (p) : role (tokSend p).1.2 = .send (ord p.1 p.2) := role_send _
theorem role_tokChunk (p) : role (tokChunk p).1.2 = .chunk (bufOf p.2) := role_chunk _

theorem role_of {a b : Tok} (h : a = b) : role a.1.2 = role b.1.2 := by rw [h]
theorem dev_of {a b : Tok} (h : a = b) : a.1.1.1 = b.1.1.1 := by rw [h]

theorem steps_lt {p : Dev nD × ℕ} (h : p ∈ steps) : p.2 < 32 := (Finset.mem_Ico.mp (Finset.mem_product.mp h).2).2
theorem chunks_lt {p : Dev nD × ℕ} (h : p ∈ chunks) : p.2 < 32 := (Finset.mem_Ico.mp (Finset.mem_product.mp h).2).2

theorem pair_eq {p q : Dev nD × ℕ} (hp : p.2 < 32) (hq : q.2 < 32) (h1 : p.1 = q.1) (h2 : ord p.1 p.2 = ord q.1 q.2) : p = q := by
  refine Prod.ext h1 (ord_inj p.1 hp hq ?_)
  rw [h2, h1]

theorem tokBar_inj : ∀ p ∈ steps, ∀ q ∈ steps, tokBar p = tokBar q → p = q := fun p hp q hq h =>
  pair_eq (steps_lt hp) (steps_lt hq) (congrArg (fun t : Tok => t.2.2) h) (dev_of h)
theorem tokRecv_inj : ∀ p ∈ steps, ∀ q ∈ steps, tokRecv p = tokRecv q → p = q := fun p hp q hq h => by
  have hr := role_of h
  rw [role_tokRecv, role_tokRecv] at hr
  exact pair_eq (steps_lt hp) (steps_lt hq) (Role.recv.inj hr) (dev_of h)
theorem tokSend_inj : ∀ p ∈ steps, ∀ q ∈ steps, tokSend p = tokSend q → p = q := fun p hp q hq h => by
  have hr := role_of h
  rw [role_tokSend, role_tokSend] at hr
  exact pair_eq (steps_lt hp) (steps_lt hq) (dev_of h) (Role.send.inj hr)
theorem tokChunk_inj : ∀ p ∈ chunks, ∀ q ∈ chunks, tokChunk p = tokChunk q → p = q := fun p _ q _ h => by
  have hr := role_of h
  rw [role_tokChunk, role_tokChunk] at hr
  have h1 : p.2 % 4 = q.2 % 4 := congrArg Fin.val (Role.chunk.inj hr)
  have h2 : p.2 / 4 = q.2 / 4 := congrArg (fun t : Tok => t.2.1) h
  exact Prod.ext (dev_of h) (by omega)

def toksBar : Finset Tok := steps.image tokBar
def toksRecv : Finset Tok := steps.image tokRecv
def toksSend : Finset Tok := steps.image tokSend
def toksChunk : Finset Tok := chunks.image tokChunk
def talkToks : Finset Tok := toksBar ∪ (toksRecv ∪ (toksSend ∪ toksChunk))

theorem disj_of {s t : Finset (Dev nD × ℕ)} {f g : Dev nD × ℕ → Tok} (h : ∀ p q, role (f p).1.2 ≠ role (g q).1.2) :
    Disjoint (s.image f) (t.image g) := by
  rw [Finset.disjoint_left]
  intro x h1 h2
  obtain ⟨p, -, rfl⟩ := Finset.mem_image.mp h1
  obtain ⟨q, -, e⟩ := Finset.mem_image.mp h2
  exact h p q (role_of e).symm

theorem disj3 : Disjoint toksSend toksChunk := disj_of fun p q h => by
  rw [role_tokSend, role_tokChunk] at h; cases h
theorem disj2 : Disjoint toksRecv (toksSend ∪ toksChunk) := Finset.disjoint_union_right.mpr
  ⟨disj_of fun p q h => (by rw [role_tokRecv, role_tokSend] at h; cases h),
   disj_of fun p q h => (by rw [role_tokRecv, role_tokChunk] at h; cases h)⟩
theorem disj1 : Disjoint toksBar (toksRecv ∪ (toksSend ∪ toksChunk)) := Finset.disjoint_union_right.mpr
  ⟨disj_of fun p q h => (by rw [role_tokBar, role_tokRecv] at h; cases h), Finset.disjoint_union_right.mpr
    ⟨disj_of fun p q h => (by rw [role_tokBar, role_tokSend] at h; cases h),
     disj_of fun p q h => (by rw [role_tokBar, role_tokChunk] at h; cases h)⟩⟩

/-- All the tokens are each device's. -/
theorem toks_eq : bigSep talkToks (fun x => (dutyTok ER x.1 x.2.1 x.2.2 : sProp 𝕄)) = bigSep Finset.univ fun c : Dev nD => payToks c := by
  unfold talkToks
  rw [BI.bigSep_union disj1, BI.bigSep_union disj2, BI.bigSep_union disj3]
  unfold toksBar toksRecv toksSend toksChunk payToks
  rw [bigSep_image_on tokBar_inj, bigSep_image_on tokRecv_inj, bigSep_image_on tokSend_inj, bigSep_image_on tokChunk_inj,
    bigSep_product, bigSep_product, bigSep_product, bigSep_product, bigSep_sep', bigSep_sep', bigSep_sep']
  rfl

/-! ## The credit -/

/-- Every device but `d` is met once in the steps of `d`. -/
theorem sum_ord (d : Fin 32) (f : Fin 32 → ℕ) : ∑ j ∈ Finset.Ico 1 32, f (ord d j) = ∑ e ∈ Finset.univ.erase d, f e := by
  rw [← ord_image_rest d, Finset.sum_image]
  intro a ha b hb h
  exact ord_inj d (Finset.mem_Ico.mp ha).2 (Finset.mem_Ico.mp hb).2 h

theorem sum_pick (d c : Fin 32) (n : ℕ) : (∑ j ∈ Finset.Ico 1 32, if c = ord d j then n else 0) = if d = c then 0 else n := by
  rw [sum_ord d fun e => if c = e then n else 0, Finset.sum_ite_eq]
  by_cases h : d = c
  · rw [if_pos h, if_neg fun hm => (Finset.mem_erase.mp hm).1 h.symm]
  · rw [if_neg h, if_pos (Finset.mem_erase.mpr ⟨fun e => h e.symm, Finset.mem_univ _⟩)]

theorem recv_ne_bar (c d e : Fin 32) : recvCell c d ≠ barCell e := fun h => by
  have hr := congrArg (fun g : GSem nD τ sig => role g.2) h
  dsimp only at hr
  rw [role_recv, role_bar] at hr
  cases hr
theorem barCell_iff (c d : Fin 32) : barCell c = barCell d ↔ c = d :=
  ⟨fun h => congrArg (fun g : GSem nD τ sig => g.1.1) h, fun h => by rw [h]⟩
theorem recvCell_iff (c d c' d' : Fin 32) : recvCell c d = recvCell c' d' ↔ c = c' ∧ d = d' := by
  constructor
  · intro h
    have hr := congrArg (fun g : GSem nD τ sig => role g.2) h
    dsimp only at hr
    rw [role_recv, role_recv] at hr
    exact ⟨congrArg (fun g : GSem nD τ sig => g.1.1) h, Role.recv.inj hr⟩
  · rintro ⟨rfl, rfl⟩; rfl

theorem owed_bar (d c : Fin 32) : O₀ d (barCell c) () = if d = c then 0 else 1 := by
  unfold O₀
  rw [Pi.add_apply, Finsupp.add_apply, RO_apply, BO_apply, ← sum_pick d c 1,
    Finset.sum_eq_zero fun j _ => if_neg fun h => recv_ne_bar _ _ _ h.symm, Nat.zero_add]
  exact Finset.sum_congr rfl fun j _ => if_congr (barCell_iff _ _) rfl rfl

theorem owed_recv (d c e : Fin 32) (h : e ≠ c) : O₀ d (recvCell c e) () = if d = e then NB else 0 := by
  unfold O₀
  rw [Pi.add_apply, Finsupp.add_apply, RO_apply, BO_apply,
    Finset.sum_eq_zero (f := fun j => if recvCell c e = barCell (ord d j) then 1 else 0) fun j _ => if_neg fun h => recv_ne_bar _ _ _ h, Nat.add_zero]
  by_cases hd : d = e
  · subst hd
    rw [if_pos rfl, Finset.sum_congr rfl fun j _ => if_congr ((recvCell_iff c d (ord d j) d).trans (and_iff_left rfl)) rfl rfl,
      sum_pick d c NB, if_neg h]
  · rw [if_neg hd]
    exact Finset.sum_eq_zero fun j _ => if_neg fun h => hd ((recvCell_iff _ _ _ _).mp h).2.symm

theorem launch_bar (c : Dev nD) :
    tallyOn (barCell c) (launchCredit (Pipeline.owing O₀) 0 (barCell c)) = (tallyAt (barCell c) () 31 : CellTallies nD τ sig Unit) := by
  unfold tallyAt
  refine congrArg _ (Finsupp.ext fun u => ?_)
  cases u
  rw [Pipeline.launchCredit_owing, Finsupp.single_eq_same, Finset.sum_congr rfl fun d _ => owed_bar d c]
  show (∑ d : Fin 32, if d = c then 0 else 1) = 31
  revert c
  decide +kernel

theorem launch_recv (c e : Dev nD) (h : e ≠ c) :
    tallyOn (recvCell c e) (launchCredit (Pipeline.owing O₀) 0 (recvCell c e)) = (tallyAt (recvCell c e) () NB : CellTallies nD τ sig Unit) := by
  unfold tallyAt
  refine congrArg _ (Finsupp.ext fun u => ?_)
  cases u
  rw [Pipeline.launchCredit_owing, Finsupp.single_eq_same, Finset.sum_congr rfl fun d _ => owed_recv d c e h,
    Finset.sum_ite_eq' Finset.univ e fun _ => NB, if_pos (Finset.mem_univ _)]

def recvSem (c : Dev nD) (j : ℕ) : SemLoc sig := .dma (recvS (ord c j))

theorem recvSem_inj (c : Dev nD) : ∀ a ∈ Finset.Ico 1 32, ∀ b ∈ Finset.Ico 1 32, recvSem c a = recvSem c b → a = b := fun a ha b hb h => by
  have hr := congrArg role h
  unfold recvSem at hr
  rw [role_recv, role_recv] at hr
  exact ord_inj c (Finset.mem_Ico.mp ha).2 (Finset.mem_Ico.mp hb).2 (Role.recv.inj hr)

theorem creds (c : Dev nD) : (Pipeline.launchCred O₀ c : sProp 𝕄) ⊢ waitCreds c := by
  unfold Pipeline.launchCred waitCreds
  rw [bigSep_univ_at _ (SemLoc.reg barrier0), launch_bar]
  refine sep_mono_right ?_
  refine BIBase.Entails.trans (BI.bigSep_subset (t := (Finset.Ico 1 32).image (recvSem c)) fun s hs => ?_) ?_
  · obtain ⟨j, -, rfl⟩ := Finset.mem_image.mp hs
    exact Finset.mem_erase.mpr ⟨fun h => (by cases h), Finset.mem_univ _⟩
  rw [bigSep_image_on (recvSem_inj c)]
  refine Entails.of_eq (BI.bigSep_congr fun j hj => ?_)
  have hj' := Finset.mem_Ico.mp hj
  exact congrArg _ (launch_recv c (ord c j) (ord_ne c hj'.1 hj'.2))

end Cert.KernelIdeal.A2A

end
-- ==== Proof.Run.lean ====
/-
  The run of the whole program: the launch hands every device what it needs, and each device then runs the host code
  and the call.

-/
module

public import proofs.«01_k».proof.Proof.Record
public import proofs.«01_k».proof.Proof.Tokens

@[expose] public section

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- The launch element: the staging's, and the exchange's. -/
def u₀ : UU :=
  (initOf (Pipeline.cells cfgs cellOf_inj) (Pipeline.launchToks cfgs cellOf_inj), launchOf barCells scCells talkToks)

/-- A resource kept on the first device until it is dealt out. -/
def onFirst (R : sProp 𝕄) (c : Dev nD) : sProp 𝕄 := if c = 0 then R else iprop(emp)
theorem bigSep_onFirst (R : sProp 𝕄) : bigSep Finset.univ (onFirst R) = R := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst
  rw [if_pos rfl]
  exact BI.equiv_iff.mp sep_emp

def G : Dev nD → sProp 𝕄 := onFirst (BI.own (ER (launchOf barCells scCells talkToks)))

/-- What each device gets for itself: its barrier's position, the rights to open its cells, its tokens. -/
def linear (c : Dev nD) : sProp 𝕄 :=
  iprop(atPos ER (barCell c) 0 ∅ 0 ∗ (bigSep Finset.univ fun k : OK => openTok ER ((c : Thread nD τ), osem k)) ∗ payToks c)
/-- And what is not the exchange's. -/
def bundle (c : Dev nD) : sProp 𝕄 := iprop(waitCreds c ∗ (∃ r, prngReg c r) ∗ owing c (O₀ c))

theorem E0_intro (κ : GSem nD τ sig → ℕ) (c : Dev nD) : iprop(records (inX m) (inW m) κ ∗ (linear c ∗ bundle c)) ⊢ E0 m c := by
  unfold bundle linear E0 Tk ghost
  iintro ⟨#HR, ⟨Ha, Ho, Ht⟩, Hw, Hp, HO⟩
  isplitl [Ha Ho Ht Hw]
  · isplitr [Hw]
    · iexists κ
      isplitr; · iexact HR
      isplitl [Ha]; · iexact Ha
      isplitl [Ho] <;> iassumption
    · iexact Hw
  isplitl [Hp] <;> iassumption

theorem unscoped_only : ∀ sm : SemLoc sig, sm.isScoped .tc = false → sm = .reg barrier0 := by decide +kernel

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barrier0} from ?_, BI.bigSep_singleton]
  ext sm
  rw [Finset.mem_filter, Finset.mem_singleton]
  constructor
  · rintro ⟨-, h⟩
    exact unscoped_only sm (by simpa using h)
  · rintro rfl
    exact ⟨Finset.mem_univ _, by decide⟩

theorem bars_out : bigSep Finset.univ (fun c : Dev nD => (semVal (barCell c) 0 : sProp 𝕄)) ⊢ bigSep barCells (fun g => (semVal g 0 : sProp 𝕄)) :=
  Entails.of_eq (bigSep_map (s := Finset.univ) barEmb (Φ := fun g : GSem nD τ sig => (semVal g 0 : sProp 𝕄))).symm

theorem ats_in : bigSep barCells (fun g => (atPos ER g 0 ∅ 0 : sProp 𝕄)) ⊢ bigSep Finset.univ (fun c : Dev nD => (atPos ER (barCell c) 0 ∅ 0 : sProp 𝕄)) :=
  Entails.of_eq (bigSep_map (s := Finset.univ) barEmb (Φ := fun g : GSem nD τ sig => (atPos ER g 0 ∅ 0 : sProp 𝕄)))

theorem opens_in : bigSep scCells (fun g => (openTok ER g : sProp 𝕄))
    ⊢ bigSep Finset.univ (fun c : Dev nD => bigSep Finset.univ fun k : OK => openTok ER ((c : Thread nD τ), osem k)) :=
  Entails.of_eq ((bigSep_map (s := Finset.univ) scEmb (Φ := fun g : GSem nD τ sig => (openTok ER g : sProp 𝕄))).trans
    (bigSep_univ_prod (fun x : Dev nD × OK => (openTok ER (scEmb x) : sProp 𝕄))))

/-- The exchange's cells set up, for any cells and tokens. -/
theorem fund_of (B S : Finset (GSem nD τ sig)) (T : Finset Tok) (h : Disjoint B S) :
    iprop(bigSep B (fun g => (semVal g 0 : sProp 𝕄)) ∗ BI.own (ER (launchOf B S T)))
      ⊢ iprop(|={Set.univ}=> ∃ κ : GSem nD τ sig → ℕ, (bigSep (B ∪ S) fun g => cellInv ER (talkRd (inX m) (inW m)) (κ g) g)
          ∗ bigSep B (fun g => reached ER g 0) ∗ bigSep B (fun g => atPos ER g 0 ∅ 0) ∗ bigSep S (fun g => openTok ER g)
          ∗ bigSep T (fun x => dutyTok ER x.1 x.2.1 x.2.2)) := by
  iintro H
  imod (Rounds.fund_launch ER (talkRd (inX m) (inW m)) h (fun g _ h => h) T) $$ H with ⟨%κ, -, H⟩
  imodintro
  iexists κ
  iexact H

theorem first_out : bigSep Finset.univ (G (F := F)) ⊢ BI.own (ER (launchOf barCells scCells talkToks)) :=
  Entails.of_eq (bigSep_onFirst (F := F) (BI.own (ER (launchOf barCells scCells talkToks))))

theorem linear_in : iprop(bigSep barCells (fun g => (atPos ER g 0 ∅ 0 : sProp 𝕄)) ∗ bigSep scCells (fun g => openTok ER g)
      ∗ bigSep talkToks (fun x => dutyTok ER x.1 x.2.1 x.2.2)) ⊢ bigSep Finset.univ (linear (F := F)) := by
  unfold linear
  rw [bigSep_sep', bigSep_sep', toks_eq]
  exact BIClass.sep_mono ats_in (BIClass.sep_mono opens_in (BI.Entails.refl _))

theorem fund_here : iprop(bigSep Finset.univ (fun c : Dev nD => (semVal (barCell c) 0 : sProp 𝕄)) ∗ bigSep Finset.univ (G (F := F)))
    ⊢ iprop(|={Set.univ}=> ∃ κ : GSem nD τ sig → ℕ, records (inX m) (inW m) κ ∗ bigSep Finset.univ (linear (F := F))) := by
  refine (BIClass.sep_mono bars_out first_out).trans ((fund_of m barCells scCells talkToks disjoint_cells).trans ?_)
  unfold records
  iintro H
  imod H with ⟨%κ, Hi, Hr, H⟩
  imodintro
  iexists κ
  isplitl [Hi Hr]
  · isplitl [Hi] <;> iassumption
  · iapply linear_in; iexact H

theorem core (c : Dev nD) : iprop(unscopedSems0 c ∗ owes (c : Thread nD τ) (O₀ c) ∅ ∗ Pipeline.launchCred O₀ c ∗ prngReg c (ρ c) ∗ G c)
    ⊢ (iprop(bundle c ∗ (semVal (barCell c) 0 ∗ G c)) : sProp 𝕄) := by
  rw [unscopedSems0_eq]
  unfold bundle owing
  iintro ⟨Hus, HO, Hcr, Hp, HG⟩
  isplitl [Hcr HO Hp]
  · isplitl [Hcr]; · iapply (creds (F := F) c); iexact Hcr
    isplitl [Hp]; · iexists (ρ c); iexact Hp
    iexists ∅; iexact HO
  isplitl [Hus] <;> iassumption

theorem cores : (bigSep Finset.univ fun c : Dev nD => iprop(unscopedSems0 c ∗ owes (c : Thread nD τ) (O₀ c) ∅ ∗ Pipeline.launchCred O₀ c
      ∗ prngReg c (ρ c) ∗ G c))
    ⊢ (iprop(bigSep Finset.univ (bundle (F := F)) ∗ (bigSep Finset.univ (fun c : Dev nD => (semVal (barCell c) 0 : sProp 𝕄)) ∗ bigSep Finset.univ (G (F := F)))) : sProp 𝕄) := by
  rw [← bigSep_sep', ← bigSep_sep']
  exact bigSep_mono fun c _ => core ρ c

theorem deal (κ : GSem nD τ sig → ℕ) : iprop(records (inX m) (inW m) κ ∗ bigSep Finset.univ (linear (F := F)) ∗ bigSep Finset.univ (bundle (F := F)))
    ⊢ bigSep Finset.univ (E0 m) := by
  rw [← bigSep_sep']
  exact bigSep_with_persistent (R := records (inX m) (inW m) κ) (Φ := fun c => iprop(linear c ∗ bundle c)) fun c _ => E0_intro m κ c

theorem init :
    iprop((bigSep Finset.univ fun c : Dev nD => iprop(unscopedSems0 c
          ∗ owes (c : Thread nD τ) (O₀ c) ∅ ∗ Pipeline.launchCred O₀ c ∗ prngReg c (ρ c) ∗ G c)) ∗ levAts L lv)
      ⊢ (|={Set.univ}=> bigSep Finset.univ (E0 m) : sProp 𝕄) := by
  iintro ⟨H, -⟩
  ihave H' := (cores ρ) $$ H
  icases H' with ⟨HB, H⟩
  imod (fund_here m) $$ H with ⟨%κ, HR, HL⟩
  imodintro
  iapply (deal m κ)
  isplitl [HR]; · iexact HR
  isplitl [HL] <;> iassumption

/-! ## The run -/

theorem arg0_mem : (Proc.devRef .tc main_arg0 : DevRef τ sig) ∈ Pipeline.ucRefs τ sig :=
  Finset.mem_filter.mpr ⟨StableHlo.devRef_mem_tcRefs main_arg0, by decide⟩
theorem v6_mem : (Proc.devRef .tc main_v6 : DevRef τ sig) ∈ Pipeline.ucRefs τ sig :=
  Finset.mem_filter.mpr ⟨StableHlo.devRef_mem_tcRefs main_v6, by decide⟩

set_option backward.isDefEq.respectTransparency.types false in
/-- From any memory with zero counters every device's result is the kernel's contents, the arguments are as launched and
    every counter is zero again. -/
theorem run_main : θ_run defs (onTc (τ := τ) (main (F := F))) ⟨m, fun _ => 0, ρ⟩ (fun r =>
    (∀ c : Dev nD, r.2.mem ((c.tc : Thread nD τ).loc main_v6) = result (inX m) (inW m) c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) := by
  refine Pipeline.θ_run_regions_kit_dev_sems (pcfgs (F := F)) adm (pdats m) () cellOf_inj EP defs₀ 𝒱₀ L lv m ρ main
    (segs m 𝒱₀ L lv (fun _ => E0 m) () (pdats m) (reg m))
    (fun c Q => by
      rewrite [main_chain c, Pipeline.Seg.run_eq_chain,
        show (segs m 𝒱₀ L lv (fun _ => E0 m) () (pdats m) (reg m) c).map Pipeline.Seg.prog = [
          StableHlo.seq (hostOps0 c),
          StableHlo.seq hostOps0_1,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) O₀ L_of_ne G u₀
    (by
      unfold u₀ G
      iintro Hu
      ihave H := (ownU_pair _ _) $$ Hu
      icases H with ⟨HP, HX⟩
      imodintro
      isplitl [HP]; · iexact HP
      rw [bigSep_onFirst]; iexact HX)
    (T₀ := fun c => iprop(StableHlo.held (c : Thread nD τ) (Pipeline.ucRefs τ sig) (V0 m c) ∗ E0 m c))
    (Tₙ := fun c => iprop(StableHlo.held (c : Thread nD τ) (Pipeline.ucRefs τ sig) (endV m c) ∗ semVal (barCell c) 0))
    (hch := fun c => ⟨.rfl, .rfl, reg_pre m c, reg_post m c⟩)
    (hinit := ?_)
    (QY := fun c s => (s.mem ((c.tc : Thread nD τ).loc main_v6) = result (inX m) (inW m) c
      ∧ s.mem ((c.tc : Thread nD τ).loc main_arg0) = m ((c.tc : Thread nD τ).loc main_arg0)
      ∧ s.mem ((c.tc : Thread nD τ).loc main_arg1) = m ((c.tc : Thread nD τ).loc main_arg1)) ∧ s.sem (barCell c) = 0)
    (hfin := fun c s' => ?_)
    (hQ := fun s h hs => ⟨fun c => (h c).1, sem_eq_zero hs fun c sm hsm => by
      obtain rfl := unscoped_only sm hsm
      exact (h c).2⟩)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (init m ρ) $$ [Hr Hla] with HE
    · isplitl [Hr]; · iexact Hr
      iexact Hla
    imodintro
    rw [bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (endV m c) s') $$ [Hh HSI]
    · isplitl [Hh] <;> iassumption
    icases Hr with ⟨%h, HSI⟩
    imodintro
    isplitr
    · ipureintro
      exact ⟨⟨(h _ v6_mem).trans (endV_out m c),
        (h _ arg0_mem).trans ((endV_of m c _ (by decide)).trans (V2_arg0 m c)),
        (h _ arg1_mem).trans (endV_arg1 m c)⟩, by simpa using hb⟩
    · iexact HSI

end Cert.KernelIdeal.A2A

end
-- ==== Proof.Value.lean ====
/-
  The kernel's result at the ideal values. One step adds the product of one band of the columns of x with the same band
  of the rows of w; the 32 steps visit each band once, in the device's own order, so their sum is the whole product.

-/
module

public import proofs.«01_k».proof.Proof.Closing
public import proofs.«01_k».proof.ReferenceIdeal
public import proofs.«01_k».proof.Proof.Gen.ReferenceIdeal
public import Idealize.ShloMosaic.Lib.Pointwise.Contract
public import Idealize.ShloMosaic.Lib.ValueLayout
public import Idealize.ShloMosaic.Lib.Layout
public import Idealize.ShloMosaic.PureOps.Ideal.Laws

@[expose] public section

noncomputable section

namespace Cert.KernelIdeal.A2A

open Idealize.ShloMosaic hiding ix2 ix3
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable (X : Dev nD → S8192x256.Idx → Ideal .f32) (W : Dev nD → S8192x4096.Idx → Ideal .f32) (c : Fin 32)

/-! ## One step -/

/-- A step at an index: what was there, and the row of the slot times the column of the chunk. -/
theorem pay1_apply (a : S256x4096.Idx → Ideal .f32) (s : S1x256x256.Idx → Ideal .bf16) (w : S1x256x4096.Idx → Ideal .f32)
    (p : Fin 256) (q : Fin 4096) :
    k0_pay1 (F := Ideal) a s w (ix2 p q) = (a (ix2 p q) : EReal) + ∑ r : Fin 256, (s (ix3 0 p r) : EReal) * w (ix3 0 r q) := by
  unfold k0_pay1
  simp only [shapeCast_self]
  show (a (ix2 p q) : EReal) + FloatOps.matmul (F := Ideal) dot_S256x256_S256x4096_S256x4096_1_0_0_1_n_n none _ _ (constant S256x4096 .f32 0x00000000#32) (ix2 p q) = _
  refine congrArg ((a (ix2 p q) : EReal) + ·) ?_
  rw [Ideal.matmul_constant_zero_apply, DotDims.sum_contr₁ _ (a := 1) rfl (K := 256) rfl]
  refine Finset.sum_congr rfl fun r _ => ?_
  have hl : dot_S256x256_S256x4096_S256x4096_1_0_0_1_n_n.lhsIdx (ix2 p q) (DotDims.contrIdx₁ _ (a := 1) rfl (K := 256) rfl r) = ix2 p r := by
    funext b; fin_cases b <;> rfl
  have hr : dot_S256x256_S256x4096_S256x4096_1_0_0_1_n_n.rhsIdx (ix2 p q) (DotDims.contrIdx₁ _ (a := 1) rfl (K := 256) rfl r) = ix2 r q := by
    funext b; fin_cases b <;> rfl
  rw [hl, hr]
  refine congrArg₂ (fun u v : EReal => u * v) ?_ ?_
  · exact shapeCast_1ab_ab_apply s _ p r
  · exact shapeCast_1ab_ab_apply w _ r q

/-- The output block after `s` steps, at an index. -/
theorem acc_apply (s : ℕ) (p : Fin 256) (q : Fin 4096) :
    acc X W c s (ix2 p q) = ∑ t ∈ Finset.range s, ∑ r : Fin 256,
      (X (ord c t) (ix2 (band c p) r) : EReal) * W c (ix2 (band (ord c t) r) q) := by
  induction s with
  | zero => exact Ideal.ofBits_zero_f32
  | succ s ih =>
    rw [Finset.sum_range_succ, ← ih]
    refine (pay1_apply _ _ _ p q).trans (congrArg (fun u : EReal => (acc X W c s (ix2 p q) : EReal) + u) ?_)
    refine Finset.sum_congr rfl fun r _ => congrArg (fun u : EReal => u * _) ?_
    show k0_pay4 (F := Ideal) (X (ord c s)) (ix2 (band c p) r) = _
    unfold k0_pay4
    simp only [shapeCast_self]
    rfl

/-! ## All the steps -/

/-- The steps visit every band once. -/
theorem sum_bands (f : Fin 32 → EReal) : ∑ t ∈ Finset.range 32, f (ord c t) = ∑ k : Fin 32, f k := by
  rw [← ord_image c, Finset.sum_image fun i hi j hj h => ord_inj c (Finset.mem_range.1 hi) (Finset.mem_range.1 hj) h]

/-- The rows of w, band by band. -/
theorem sum_rows (f : Fin 8192 → EReal) : ∑ k : Fin 32, ∑ r : Fin 256, f (band k r) = ∑ j : Fin 8192, f j := by
  rw [← Fintype.sum_prod_type' (f := fun k r => f (band k r))]
  refine Fintype.sum_equiv (finProdFinEquiv (m := 32) (n := 256)) _ _ fun x => congrArg f (Fin.ext ?_)
  show 256 * x.1.val + x.2.val = x.2.val + 256 * x.1.val
  omega

/-- The product of the whole arrays at an index. -/
def dotAt (x : Cert.ReferenceIdeal.S8192x8192.Idx → Ideal .f32) (w : S8192x4096.Idx → Ideal .f32) (a : Fin 8192) (q : Fin 4096) : EReal :=
  ∑ j : Fin 8192, (x (ix2 a j) : EReal) * w (ix2 j q)

theorem acc_all (x : Cert.ReferenceIdeal.S8192x8192.Idx → Ideal .f32) (w : S8192x4096.Idx → Ideal .f32)
    (hX : ∀ d, X d = Layout.block ⟨2, ![8192, 256]⟩ ⟨2, ![8192, 8192]⟩ 1 32 d x) (hW : W c = w) (p : Fin 256) (q : Fin 4096) :
    acc X W c 32 (ix2 p q) = dotAt x w (band c p) q := by
  rw [acc_apply, hW]
  refine (sum_bands c fun k => ∑ r : Fin 256, (X k (ix2 (band c p) r) : EReal) * w (ix2 (band k r) q)).trans ?_
  unfold dotAt
  rw [← sum_rows]
  refine Finset.sum_congr rfl fun k _ => Finset.sum_congr rfl fun r _ => congrArg (fun u : EReal => u * _) ?_
  rw [hX k, Layout.block_apply]
  refine congrArg x ?_
  funext b
  apply Fin.ext
  rw [Layout.Tiles.idx_val]
  fin_cases b
  · rfl
  · show k.val * 256 + r.val = 256 * k.val + r.val
    omega

/-! ## The reference -/

/-- The reference's result. -/
def refOut (x : Cert.ReferenceIdeal.S8192x8192.Idx → Ideal .f32) (w : S8192x4096.Idx → Ideal .f32) : Cert.ReferenceIdeal.S8192x4096.Idx → Ideal .f32 :=
  maximumf (Host.dotGeneral Cert.ReferenceIdeal.dot_S8192x8192_S8192x4096_S8192x4096_1_0_0_1_n_n none x w)
    (broadcastInDim Cert.ReferenceIdeal.S8192x4096 ![] Cert.ReferenceIdeal.Gen.bcast_S_S8192x4096 (constant Cert.ReferenceIdeal.S_ .f32 0x00000000#32))

theorem refOut_apply (x : Cert.ReferenceIdeal.S8192x8192.Idx → Ideal .f32) (w : S8192x4096.Idx → Ideal .f32) (a : Fin 8192) (q : Fin 4096) :
    refOut x w (ix2 a q) = FloatOps.maximumf (F := Ideal) (dotAt x w a q : Ideal .f32) (Scalar.ofBits .f32 0x00000000#32) := by
  refine congrArg (fun u : Ideal .f32 => FloatOps.maximumf (F := Ideal) u (Scalar.ofBits .f32 0x00000000#32)) ?_
  show FloatOps.dotGeneral (F := Ideal) Cert.ReferenceIdeal.dot_S8192x8192_S8192x4096_S8192x4096_1_0_0_1_n_n none _ x w (ix2 a q) = _
  rw [Ideal.dotGeneral_apply, DotDims.sum_contr₁ _ (a := 1) rfl (K := 8192) rfl]
  unfold dotAt
  refine Finset.sum_congr rfl fun r _ => ?_
  have hl : Cert.ReferenceIdeal.dot_S8192x8192_S8192x4096_S8192x4096_1_0_0_1_n_n.lhsIdx (ix2 a q) (DotDims.contrIdx₁ _ (a := 1) rfl (K := 8192) rfl r) = ix2 a r := by
    funext b; fin_cases b <;> rfl
  have hr : Cert.ReferenceIdeal.dot_S8192x8192_S8192x4096_S8192x4096_1_0_0_1_n_n.rhsIdx (ix2 a q) (DotDims.contrIdx₁ _ (a := 1) rfl (K := 8192) rfl r) = ix2 r q := by
    funext b; fin_cases b <;> rfl
  rw [hl, hr]

/-- Device `c`'s result is block `c` of the reference's. -/
theorem result_eq (x : Cert.ReferenceIdeal.S8192x8192.Idx → Ideal .f32) (w : S8192x4096.Idx → Ideal .f32)
    (hX : ∀ d, X d = Layout.block ⟨2, ![8192, 256]⟩ ⟨2, ![8192, 8192]⟩ 1 32 d x) (hW : W c = w) :
    result X W c = Layout.block ⟨2, ![256, 4096]⟩ ⟨2, ![8192, 4096]⟩ 0 32 c (refOut x w) := by
  funext i
  obtain ⟨p, q, rfl⟩ : ∃ (p : Fin 256) (q : Fin 4096), i = ix2 p q := ⟨i 0, i 1, by funext b; fin_cases b <;> rfl⟩
  rw [Layout.block_apply]
  have hi : Layout.Tiles.idx (S := ⟨2, ![256, 4096]⟩) (T := ⟨2, ![8192, 4096]⟩) (a := 0) (k := 32) (by decide) c (ix2 p q) = ix2 (band c p) q := by
    funext b
    apply Fin.ext
    rw [Layout.Tiles.idx_val]
    fin_cases b
    · show c.val * 256 + p.val = 256 * c.val + p.val
      omega
    · rfl
  rw [hi, refOut_apply, ← acc_all X W c x w hX hW p q]
  unfold result k0_pay8
  simp only [shapeCast_self]
  rfl

end Cert.KernelIdeal.A2A

end
-- ==== Proof.Same.lean ====
/-
  The kernel as printed and the idealized kernel have the same text, so a run of the one is a run of the other.
-/
module

public import proofs.«01_k».proof.Proof.Gen.Kernel
public import proofs.«01_k».proof.Proof.Gen.KernelIdeal

@[expose] public section

noncomputable section

namespace Cert.Same

open Idealize.ShloMosaic Idealize.SL.Sem

variable {F : FTy → Type} [FloatOps F]

set_option smartUnfolding false in
theorem bodies_eq : @Cert.Kernel.defs₀ F _ _ = @Cert.KernelIdeal.defs₀ F _ _ := by rfl

theorem main_eq (d : Fin 32) : Cert.Kernel.main (F := F) d = Cert.KernelIdeal.main (F := F) d := by
  unfold Cert.Kernel.main Cert.KernelIdeal.main
  rfl

theorem defs_eq : @Cert.Kernel.defs F _ _ = @Cert.KernelIdeal.defs F _ _ :=
  congrArg (Pipeline.defs (Cert.Kernel.pcfgs (F := F))) bodies_eq

/-- Whatever a run of the idealized program reaches, the printed program's run reaches. -/
theorem run_eq (s : MemSt Cert.Kernel.nD Cert.Kernel.τ Cert.Kernel.sig (Elt F)) (Q : PUnit × MemSt Cert.Kernel.nD Cert.Kernel.τ Cert.Kernel.sig (Elt F) → Prop)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  have hm : Cert.Kernel.main (F := F) = Cert.KernelIdeal.main (F := F) := funext main_eq
  rw [hm, defs_eq]
  exact h

end Cert.Same

end
-- ==== Proof.lean ====
/- The certificate's proof: the frames of the kernel (as printed and idealized) and of the reference, that nothing was
   rewritten, and that device `c`'s result is block `c` of the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Value
public import proofs.«01_k».proof.Proof.Same

@[expose] public section

noncomputable section

namespace Cert.Proof

open Idealize.ShloMosaic Idealize.SL.Sem

/-- The printed kernel terminates, leaves its arguments alone and every counter at zero: the run is proved for any float
    values, and nothing was rewritten, so it is the run of the idealized program at the bit-exact values. -/
theorem frame_kernel : Cert.quiescent_Kernel := fun m ρ _ =>
  Cert.Same.run_eq (F := Bits) _ _
    ((θ_run Cert.KernelIdeal.defs _ _).mono (fun _ h => ⟨fun c => (h.1 c).2, h.2⟩) (Cert.KernelIdeal.A2A.run_main (F := Bits) m ρ))

theorem frame_ideal : Cert.quiescent_KernelIdeal := fun m ρ _ =>
  (θ_run Cert.KernelIdeal.defs _ _).mono (fun _ h => ⟨fun c => (h.1 c).2, h.2⟩) (Cert.KernelIdeal.A2A.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Device `c`'s result is block `c` of the reference's, which is the relu of the product of the whole arrays. -/
theorem algebraic : Cert.algebraic_KernelIdeal_ReferenceIdeal := fun m ρ m' ρ' _ hm =>
  ⟨Cert.KernelIdeal.A2A.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).1.trans (Cert.KernelIdeal.A2A.result_eq _ _ c _ _ (fun d => (hm d).1) (hm c).2), (h.1 c).2⟩)
      (Cert.KernelIdeal.A2A.run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts, frame_kernel, frame_ideal, frame_reference,
    trivial, algebraic⟩

end Cert.Proof
